-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x100000 : Shape := ⟨3, ![128, 1, 100000]⟩
abbrev S128x100000 : Shape := ⟨2, ![128, 100000]⟩
abbrev S128x1 : Shape := ⟨2, ![128, 1]⟩
abbrev S8x100000 : Shape := ⟨2, ![8, 100000]⟩
abbrev S8x1 : Shape := ⟨2, ![8, 1]⟩
abbrev S8 : Shape := ⟨1, ![8]⟩

abbrev nBuf : Space → Nat
  | .hbm => 5
  | .vmem => 6
  | .smem => 0
  | _ => 0

abbrev bufTy : (tb : Table) → Fin (tcTables nBuf tb) → BufTy
  | .hbm, ⟨0, _⟩ => ⟨S128x1x100000, .f32⟩
  | .hbm, ⟨1, _⟩ => ⟨S128x100000, .f32⟩
  | .hbm, ⟨2, _⟩ => ⟨S128x100000, .f32⟩
  | .hbm, ⟨3, _⟩ => ⟨S128x1, .i32⟩
  | .hbm, ⟨4, _⟩ => ⟨S128x1x100000, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .vmem, ⟨4, _⟩ => ⟨S8x1, .i32⟩
  | .local _ .vmem, ⟨5, _⟩ => ⟨S8x1, .i32⟩
  | _, _ => ⟨S128x1x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1_0 : Ref sig .tc := ⟨.hbm, 2, rfl⟩
abbrev main_v0_1 : Ref sig .tc := ⟨.hbm, 3, rfl⟩
abbrev main_v0_0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x1x100000 : Shape := ⟨3, ![128, 1, 100000]⟩
abbrev S_ : Shape := ⟨0, ![]⟩
abbrev S128x1 : Shape := ⟨2, ![128, 1]⟩
abbrev S128x1x1 : Shape := ⟨3, ![128, 1, 1]⟩
abbrev S1 : Shape := ⟨1, ![1]⟩
abbrev S2 : Shape := ⟨1, ![2]⟩

abbrev nBuf : Space → Nat
  | .hbm => 302
  | .vmem => 0
  | .smem => 0
  | _ => 0

abbrev hbmTy0_0 (i : Nat) : BufTy := match i % 128 with
  | 0 => ⟨S128x1x100000, .f32⟩
  | 1 => ⟨S_, .f32⟩
  | 2 => ⟨S128x1x100000, .f32⟩
  | 3 => ⟨S128x1x100000, .f32⟩
  | 4 => ⟨S_, .f32⟩
  | 5 => ⟨S128x1, .f32⟩
  | 6 => ⟨S_, .f32⟩
  | 7 => ⟨S128x1, .f32⟩
  | 8 => ⟨S128x1, .i1⟩
  | 9 => ⟨S_, .f32⟩
  | 10 => ⟨S_, .f32⟩
  | 11 => ⟨S128x1, .f32⟩
  | 12 => ⟨S128x1, .f32⟩
  | 13 => ⟨S128x1x1, .f32⟩
  | 14 => ⟨S128x1x100000, .f32⟩
  | 15 => ⟨S128x1x100000, .f32⟩
  | 16 => ⟨S128x1x100000, .f32⟩
  | 17 => ⟨S_, .i32⟩
  | 18 => ⟨S_, .i32⟩
  | 19 => ⟨S_, .i32⟩
  | 20 => ⟨S_, .i32⟩
  | 21 => ⟨S1, .i32⟩
  | 22 => ⟨S_, .i32⟩
  | 23 => ⟨S_, .i32⟩
  | 24 => ⟨S_, .i32⟩
  | 25 => ⟨S1, .i32⟩
  | 26 => ⟨S2, .i32⟩
  | 27 => ⟨S1, .i32⟩
  | 28 => ⟨S_, .i32⟩
  | 29 => ⟨S1, .i32⟩
  | 30 => ⟨S_, .i32⟩
  | 31 => ⟨S128x1x100000, .i64⟩
  | 32 => ⟨S128x1x100000, .i64⟩
  | 33 => ⟨S128x1x100000, .i64⟩
  | 34 => ⟨S_, .i64⟩
  | 35 => ⟨S128x1x100000, .i64⟩
  | 36 => ⟨S128x1x100000, .i64⟩
  | 37 => ⟨S_, .i64⟩
  | 38 => ⟨S128x1x100000, .i64⟩
  | 39 => ⟨S128x1x100000, .i64⟩
  | 40 => ⟨S_, .i64⟩
  | 41 => ⟨S128x1x100000, .i64⟩
  | 42 => ⟨S128x1x100000, .i64⟩
  | 43 => ⟨S128x1x100000, .i64⟩
  | 44 => ⟨S128x1x100000, .i64⟩
  | 45 => ⟨S_, .i64⟩
  | 46 => ⟨S128x1x100000, .i64⟩
  | 47 => ⟨S128x1x100000, .i64⟩
  | 48 => ⟨S128x1x100000, .i32⟩
  | 49 => ⟨S128x1x100000, .i32⟩
  | 50 => ⟨S_, .i32⟩
  | 51 => ⟨S_, .i32⟩
  | 52 => ⟨S_, .i32⟩
  | 53 => ⟨S128x1x100000, .i32⟩
  | 54 => ⟨S128x1x100000, .i32⟩
  | 55 => ⟨S128x1x100000, .i32⟩
  | 56 => ⟨S128x1x100000, .i32⟩
  | 57 => ⟨S128x1x100000, .i32⟩
  | 58 => ⟨S_, .i32⟩
  | 59 => ⟨S128x1x100000, .i32⟩
  | 60 => ⟨S128x1x100000, .i32⟩
  | 61 => ⟨S_, .i32⟩
  | 62 => ⟨S128x1x100000, .i32⟩
  | 63 => ⟨S128x1x100000, .i32⟩
  | 64 => ⟨S128x1x100000, .i32⟩
  | 65 => ⟨S128x1x100000, .i32⟩
  | 66 => ⟨S128x1x100000, .i32⟩
  | 67 => ⟨S_, .i32⟩
  | 68 => ⟨S128x1x100000, .i32⟩
  | 69 => ⟨S128x1x100000, .i32⟩
  | 70 => ⟨S_, .i32⟩
  | 71 => ⟨S128x1x100000, .i32⟩
  | 72 => ⟨S128x1x100000, .i32⟩
  | 73 => ⟨S128x1x100000, .i32⟩
  | 74 => ⟨S128x1x100000, .i32⟩
  | 75 => ⟨S128x1x100000, .i32⟩
  | 76 => ⟨S_, .i32⟩
  | 77 => ⟨S128x1x100000, .i32⟩
  | 78 => ⟨S128x1x100000, .i32⟩
  | 79 => ⟨S_, .i32⟩
  | 80 => ⟨S128x1x100000, .i32⟩
  | 81 => ⟨S128x1x100000, .i32⟩
  | 82 => ⟨S128x1x100000, .i32⟩
  | 83 => ⟨S128x1x100000, .i32⟩
  | 84 => ⟨S128x1x100000, .i32⟩
  | 85 => ⟨S_, .i32⟩
  | 86 => ⟨S128x1x100000, .i32⟩
  | 87 => ⟨S128x1x100000, .i32⟩
  | 88 => ⟨S_, .i32⟩
  | 89 => ⟨S128x1x100000, .i32⟩
  | 90 => ⟨S128x1x100000, .i32⟩
  | 91 => ⟨S128x1x100000, .i32⟩
  | 92 => ⟨S128x1x100000, .i32⟩
  | 93 => ⟨S128x1x100000, .i32⟩
  | 94 => ⟨S128x1x100000, .i32⟩
  | 95 => ⟨S128x1x100000, .i32⟩
  | 96 => ⟨S128x1x100000, .i32⟩
  | 97 => ⟨S_, .i32⟩
  | 98 => ⟨S128x1x100000, .i32⟩
  | 99 => ⟨S128x1x100000, .i32⟩
  | 100 => ⟨S128x1x100000, .i32⟩
  | 101 => ⟨S_, .i32⟩
  | 102 => ⟨S128x1x100000, .i32⟩
  | 103 => ⟨S128x1x100000, .i32⟩
  | 104 => ⟨S_, .i32⟩
  | 105 => ⟨S128x1x100000, .i32⟩
  | 106 => ⟨S128x1x100000, .i32⟩
  | 107 => ⟨S128x1x100000, .i32⟩
  | 108 => ⟨S128x1x100000, .i32⟩
  | 109 => ⟨S128x1x100000, .i32⟩
  | 110 => ⟨S_, .i32⟩
  | 111 => ⟨S128x1x100000, .i32⟩
  | 112 => ⟨S128x1x100000, .i32⟩
  | 113 => ⟨S_, .i32⟩
  | 114 => ⟨S128x1x100000, .i32⟩
  | 115 => ⟨S128x1x100000, .i32⟩
  | 116 => ⟨S128x1x100000, .i32⟩
  | 117 => ⟨S128x1x100000, .i32⟩
  | 118 => ⟨S128x1x100000, .i32⟩
  | 119 => ⟨S_, .i32⟩
  | 120 => ⟨S128x1x100000, .i32⟩
  | 121 => ⟨S128x1x100000, .i32⟩
  | 122 => ⟨S_, .i32⟩
  | 123 => ⟨S128x1x100000, .i32⟩
  | 124 => ⟨S128x1x100000, .i32⟩
  | 125 => ⟨S128x1x100000, .i32⟩
  | 126 => ⟨S128x1x100000, .i32⟩
  | 127 => ⟨S128x1x100000, .i32⟩
  | _ => ⟨S128x1x100000, .f32⟩

abbrev hbmTy0_1 (i : Nat) : BufTy := match i % 128 with
  | 0 => ⟨S_, .i32⟩
  | 1 => ⟨S128x1x100000, .i32⟩
  | 2 => ⟨S128x1x100000, .i32⟩
  | 3 => ⟨S_, .i32⟩
  | 4 => ⟨S128x1x100000, .i32⟩
  | 5 => ⟨S128x1x100000, .i32⟩
  | 6 => ⟨S128x1x100000, .i32⟩
  | 7 => ⟨S128x1x100000, .i32⟩
  | 8 => ⟨S128x1x100000, .i32⟩
  | 9 => ⟨S128x1x100000, .i32⟩
  | 10 => ⟨S128x1x100000, .i32⟩
  | 11 => ⟨S128x1x100000, .i32⟩
  | 12 => ⟨S_, .i32⟩
  | 13 => ⟨S128x1x100000, .i32⟩
  | 14 => ⟨S128x1x100000, .i32⟩
  | 15 => ⟨S128x1x100000, .i32⟩
  | 16 => ⟨S_, .i32⟩
  | 17 => ⟨S128x1x100000, .i32⟩
  | 18 => ⟨S128x1x100000, .i32⟩
  | 19 => ⟨S_, .i32⟩
  | 20 => ⟨S128x1x100000, .i32⟩
  | 21 => ⟨S128x1x100000, .i32⟩
  | 22 => ⟨S128x1x100000, .i32⟩
  | 23 => ⟨S128x1x100000, .i32⟩
  | 24 => ⟨S128x1x100000, .i32⟩
  | 25 => ⟨S_, .i32⟩
  | 26 => ⟨S128x1x100000, .i32⟩
  | 27 => ⟨S128x1x100000, .i32⟩
  | 28 => ⟨S_, .i32⟩
  | 29 => ⟨S128x1x100000, .i32⟩
  | 30 => ⟨S128x1x100000, .i32⟩
  | 31 => ⟨S128x1x100000, .i32⟩
  | 32 => ⟨S128x1x100000, .i32⟩
  | 33 => ⟨S128x1x100000, .i32⟩
  | 34 => ⟨S_, .i32⟩
  | 35 => ⟨S128x1x100000, .i32⟩
  | 36 => ⟨S128x1x100000, .i32⟩
  | 37 => ⟨S_, .i32⟩
  | 38 => ⟨S128x1x100000, .i32⟩
  | 39 => ⟨S128x1x100000, .i32⟩
  | 40 => ⟨S128x1x100000, .i32⟩
  | 41 => ⟨S128x1x100000, .i32⟩
  | 42 => ⟨S128x1x100000, .i32⟩
  | 43 => ⟨S_, .i32⟩
  | 44 => ⟨S128x1x100000, .i32⟩
  | 45 => ⟨S128x1x100000, .i32⟩
  | 46 => ⟨S_, .i32⟩
  | 47 => ⟨S128x1x100000, .i32⟩
  | 48 => ⟨S128x1x100000, .i32⟩
  | 49 => ⟨S128x1x100000, .i32⟩
  | 50 => ⟨S128x1x100000, .i32⟩
  | 51 => ⟨S128x1x100000, .i32⟩
  | 52 => ⟨S128x1x100000, .i32⟩
  | 53 => ⟨S128x1x100000, .i32⟩
  | 54 => ⟨S128x1x100000, .i32⟩
  | 55 => ⟨S_, .i32⟩
  | 56 => ⟨S128x1x100000, .i32⟩
  | 57 => ⟨S128x1x100000, .i32⟩
  | 58 => ⟨S128x1x100000, .i32⟩
  | 59 => ⟨S_, .i32⟩
  | 60 => ⟨S128x1x100000, .i32⟩
  | 61 => ⟨S128x1x100000, .i32⟩
  | 62 => ⟨S_, .i32⟩
  | 63 => ⟨S128x1x100000, .i32⟩
  | 64 => ⟨S128x1x100000, .i32⟩
  | 65 => ⟨S128x1x100000, .i32⟩
  | 66 => ⟨S128x1x100000, .i32⟩
  | 67 => ⟨S128x1x100000, .i32⟩
  | 68 => ⟨S_, .i32⟩
  | 69 => ⟨S128x1x100000, .i32⟩
  | 70 => ⟨S128x1x100000, .i32⟩
  | 71 => ⟨S_, .i32⟩
  | 72 => ⟨S128x1x100000, .i32⟩
  | 73 => ⟨S128x1x100000, .i32⟩
  | 74 => ⟨S128x1x100000, .i32⟩
  | 75 => ⟨S128x1x100000, .i32⟩
  | 76 => ⟨S128x1x100000, .i32⟩
  | 77 => ⟨S_, .i32⟩
  | 78 => ⟨S128x1x100000, .i32⟩
  | 79 => ⟨S128x1x100000, .i32⟩
  | 80 => ⟨S_, .i32⟩
  | 81 => ⟨S128x1x100000, .i32⟩
  | 82 => ⟨S128x1x100000, .i32⟩
  | 83 => ⟨S128x1x100000, .i32⟩
  | 84 => ⟨S128x1x100000, .i32⟩
  | 85 => ⟨S128x1x100000, .i32⟩
  | 86 => ⟨S_, .i32⟩
  | 87 => ⟨S128x1x100000, .i32⟩
  | 88 => ⟨S128x1x100000, .i32⟩
  | 89 => ⟨S_, .i32⟩
  | 90 => ⟨S128x1x100000, .i32⟩
  | 91 => ⟨S128x1x100000, .i32⟩
  | 92 => ⟨S128x1x100000, .i32⟩
  | 93 => ⟨S128x1x100000, .i32⟩
  | 94 => ⟨S128x1x100000, .i32⟩
  | 95 => ⟨S128x1x100000, .i32⟩
  | 96 => ⟨S128x1x100000, .i32⟩
  | 97 => ⟨S128x1x100000, .i32⟩
  | 98 => ⟨S_, .i32⟩
  | 99 => ⟨S128x1x100000, .i32⟩
  | 100 => ⟨S128x1x100000, .i32⟩
  | 101 => ⟨S128x1x100000, .i32⟩
  | 102 => ⟨S_, .i32⟩
  | 103 => ⟨S128x1x100000, .i32⟩
  | 104 => ⟨S128x1x100000, .i32⟩
  | 105 => ⟨S_, .i32⟩
  | 106 => ⟨S128x1x100000, .i32⟩
  | 107 => ⟨S128x1x100000, .i32⟩
  | 108 => ⟨S128x1x100000, .i32⟩
  | 109 => ⟨S128x1x100000, .i32⟩
  | 110 => ⟨S128x1x100000, .i32⟩
  | 111 => ⟨S_, .i32⟩
  | 112 => ⟨S128x1x100000, .i32⟩
  | 113 => ⟨S128x1x100000, .i32⟩
  | 114 => ⟨S_, .i32⟩
  | 115 => ⟨S128x1x100000, .i32⟩
  | 116 => ⟨S128x1x100000, .i32⟩
  | 117 => ⟨S128x1x100000, .i32⟩
  | 118 => ⟨S128x1x100000, .i32⟩
  | 119 => ⟨S128x1x100000, .i32⟩
  | 120 => ⟨S_, .i32⟩
  | 121 => ⟨S128x1x100000, .i32⟩
  | 122 => ⟨S128x1x100000, .i32⟩
  | 123 => ⟨S_, .i32⟩
  | 124 => ⟨S128x1x100000, .i32⟩
  | 125 => ⟨S128x1x100000, .i32⟩
  | 126 => ⟨S128x1x100000, .i32⟩
  | 127 => ⟨S128x1x100000, .i32⟩
  | _ => ⟨S128x1x100000, .f32⟩

abbrev hbmTy0_2 (i : Nat) : BufTy := match i % 128 with
  | 0 => ⟨S128x1x100000, .i32⟩
  | 1 => ⟨S_, .i32⟩
  | 2 => ⟨S128x1x100000, .i32⟩
  | 3 => ⟨S128x1x100000, .i32⟩
  | 4 => ⟨S_, .i32⟩
  | 5 => ⟨S128x1x100000, .i32⟩
  | 6 => ⟨S128x1x100000, .i32⟩
  | 7 => ⟨S128x1x100000, .i32⟩
  | 8 => ⟨S128x1x100000, .i32⟩
  | 9 => ⟨S128x1x100000, .i32⟩
  | 10 => ⟨S128x1x100000, .i32⟩
  | 11 => ⟨S128x1x100000, .i32⟩
  | 12 => ⟨S128x1x100000, .i32⟩
  | 13 => ⟨S_, .i32⟩
  | 14 => ⟨S128x1x100000, .i32⟩
  | 15 => ⟨S128x1x100000, .i32⟩
  | 16 => ⟨S128x1x100000, .i32⟩
  | 17 => ⟨S_, .i32⟩
  | 18 => ⟨S128x1x100000, .i32⟩
  | 19 => ⟨S128x1x100000, .i32⟩
  | 20 => ⟨S_, .i32⟩
  | 21 => ⟨S128x1x100000, .i32⟩
  | 22 => ⟨S128x1x100000, .i32⟩
  | 23 => ⟨S128x1x100000, .f32⟩
  | 24 => ⟨S_, .f32⟩
  | 25 => ⟨S128x1x100000, .f32⟩
  | 26 => ⟨S128x1x100000, .f32⟩
  | 27 => ⟨S_, .f32⟩
  | 28 => ⟨S128x1x100000, .f32⟩
  | 29 => ⟨S128x1x100000, .f32⟩
  | 30 => ⟨S_, .f32⟩
  | 31 => ⟨S128x1x100000, .f32⟩
  | 32 => ⟨S128x1x100000, .f32⟩
  | 33 => ⟨S_, .f32⟩
  | 34 => ⟨S128x1x100000, .f32⟩
  | 35 => ⟨S128x1x100000, .f32⟩
  | 36 => ⟨S128x1x100000, .f32⟩
  | 37 => ⟨S128x1x100000, .f32⟩
  | 38 => ⟨S128x1x100000, .f32⟩
  | 39 => ⟨S128x1x100000, .f32⟩
  | 40 => ⟨S128x1x100000, .f32⟩
  | 41 => ⟨S128x1x100000, .i32⟩
  | 42 => ⟨S_, .f32⟩
  | 43 => ⟨S_, .i32⟩
  | 44 => ⟨S128x1, .f32⟩
  | 45 => ⟨S128x1, .i32⟩
  | _ => ⟨S128x1x100000, .f32⟩

abbrev hbmTy (i : Nat) : BufTy := match i / 128 with
  | 0 => hbmTy0_0 i
  | 1 => hbmTy0_1 i
  | 2 => hbmTy0_2 i
  | _ => ⟨S128x1x100000, .f32⟩

abbrev bufTy : (tb : Table) → Fin (tcTables nBuf tb) → BufTy
  | .hbm, ⟨i, _⟩ => hbmTy i
  | _, _ => ⟨S128x1x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_c_0 : Ref sig .tc := ⟨.hbm, 58, rfl⟩
abbrev main_call1_v7 : Ref sig .tc := ⟨.hbm, 59, rfl⟩
abbrev main_call1_v8 : Ref sig .tc := ⟨.hbm, 60, rfl⟩
abbrev main_call1_c_1 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_c_2 : Ref sig .tc := ⟨.hbm, 67, rfl⟩
abbrev main_call1_v14 : Ref sig .tc := ⟨.hbm, 68, rfl⟩
abbrev main_call1_v15 : Ref sig .tc := ⟨.hbm, 69, rfl⟩
abbrev main_call1_c_3 : Ref sig .tc := ⟨.hbm, 70, rfl⟩
abbrev main_call1_v16 : Ref sig .tc := ⟨.hbm, 71, rfl⟩
abbrev main_call1_v17 : Ref sig .tc := ⟨.hbm, 72, rfl⟩
abbrev main_call1_v18 : Ref sig .tc := ⟨.hbm, 73, rfl⟩
abbrev main_call1_v19 : Ref sig .tc := ⟨.hbm, 74, rfl⟩
abbrev main_call1_v20 : Ref sig .tc := ⟨.hbm, 75, rfl⟩
abbrev main_call1_c_4 : Ref sig .tc := ⟨.hbm, 76, rfl⟩
abbrev main_call1_v21 : Ref sig .tc := ⟨.hbm, 77, rfl⟩
abbrev main_call1_v22 : Ref sig .tc := ⟨.hbm, 78, rfl⟩
abbrev main_call1_c_5 : Ref sig .tc := ⟨.hbm, 79, rfl⟩
abbrev main_call1_v23 : Ref sig .tc := ⟨.hbm, 80, rfl⟩
abbrev main_call1_v24 : Ref sig .tc := ⟨.hbm, 81, rfl⟩
abbrev main_call1_v25 : Ref sig .tc := ⟨.hbm, 82, rfl⟩
abbrev main_call1_v26 : Ref sig .tc := ⟨.hbm, 83, rfl⟩
abbrev main_call1_v27 : Ref sig .tc := ⟨.hbm, 84, rfl⟩
abbrev main_call1_c_6 : Ref sig .tc := ⟨.hbm, 85, rfl⟩
abbrev main_call1_v28 : Ref sig .tc := ⟨.hbm, 86, rfl⟩
abbrev main_call1_v29 : Ref sig .tc := ⟨.hbm, 87, rfl⟩
abbrev main_call1_c_7 : Ref sig .tc := ⟨.hbm, 88, rfl⟩
abbrev main_call1_v30 : Ref sig .tc := ⟨.hbm, 89, rfl⟩
abbrev main_call1_v31 : Ref sig .tc := ⟨.hbm, 90, rfl⟩
abbrev main_call1_v32 : Ref sig .tc := ⟨.hbm, 91, rfl⟩
abbrev main_call1_v33 : Ref sig .tc := ⟨.hbm, 92, rfl⟩
abbrev main_call1_v34 : Ref sig .tc := ⟨.hbm, 93, rfl⟩
abbrev main_call1_v35 : Ref sig .tc := ⟨.hbm, 94, rfl⟩
abbrev main_call1_v36 : Ref sig .tc := ⟨.hbm, 95, rfl⟩
abbrev main_call1_v37 : Ref sig .tc := ⟨.hbm, 96, rfl⟩
abbrev main_call1_c_8 : Ref sig .tc := ⟨.hbm, 97, rfl⟩
abbrev main_call1_v38 : Ref sig .tc := ⟨.hbm, 98, rfl⟩
abbrev main_call1_v39 : Ref sig .tc := ⟨.hbm, 99, rfl⟩
abbrev main_call1_v40 : Ref sig .tc := ⟨.hbm, 100, rfl⟩
abbrev main_call1_c_9 : Ref sig .tc := ⟨.hbm, 101, rfl⟩
abbrev main_call1_v41 : Ref sig .tc := ⟨.hbm, 102, rfl⟩
abbrev main_call1_v42 : Ref sig .tc := ⟨.hbm, 103, rfl⟩
abbrev main_call1_c_10 : Ref sig .tc := ⟨.hbm, 104, rfl⟩
abbrev main_call1_v43 : Ref sig .tc := ⟨.hbm, 105, rfl⟩
abbrev main_call1_v44 : Ref sig .tc := ⟨.hbm, 106, rfl⟩
abbrev main_call1_v45 : Ref sig .tc := ⟨.hbm, 107, rfl⟩
abbrev main_call1_v46 : Ref sig .tc := ⟨.hbm, 108, rfl⟩
abbrev main_call1_v47 : Ref sig .tc := ⟨.hbm, 109, rfl⟩
abbrev main_call1_c_11 : Ref sig .tc := ⟨.hbm, 110, rfl⟩
abbrev main_call1_v48 : Ref sig .tc := ⟨.hbm, 111, rfl⟩
abbrev main_call1_v49 : Ref sig .tc := ⟨.hbm, 112, rfl⟩
abbrev main_call1_c_12 : Ref sig .tc := ⟨.hbm, 113, rfl⟩
abbrev main_call1_v50 : Ref sig .tc := ⟨.hbm, 114, rfl⟩
abbrev main_call1_v51 : Ref sig .tc := ⟨.hbm, 115, rfl⟩
abbrev main_call1_v52 : Ref sig .tc := ⟨.hbm, 116, rfl⟩
abbrev main_call1_v53 : Ref sig .tc := ⟨.hbm, 117, rfl⟩
abbrev main_call1_v54 : Ref sig .tc := ⟨.hbm, 118, rfl⟩
abbrev main_call1_c_13 : Ref sig .tc := ⟨.hbm, 119, rfl⟩
abbrev main_call1_v55 : Ref sig .tc := ⟨.hbm, 120, rfl⟩
abbrev main_call1_v56 : Ref sig .tc := ⟨.hbm, 121, rfl⟩
abbrev main_call1_c_14 : Ref sig .tc := ⟨.hbm, 122, rfl⟩
abbrev main_call1_v57 : Ref sig .tc := ⟨.hbm, 123, rfl⟩
abbrev main_call1_v58 : Ref sig .tc := ⟨.hbm, 124, rfl⟩
abbrev main_call1_v59 : Ref sig .tc := ⟨.hbm, 125, rfl⟩
abbrev main_call1_v60 : Ref sig .tc := ⟨.hbm, 126, rfl⟩
abbrev main_call1_v61 : Ref sig .tc := ⟨.hbm, 127, rfl⟩
abbrev main_call1_c_15 : Ref sig .tc := ⟨.hbm, 128, rfl⟩
abbrev main_call1_v62 : Ref sig .tc := ⟨.hbm, 129, rfl⟩
abbrev main_call1_v63 : Ref sig .tc := ⟨.hbm, 130, rfl⟩
abbrev main_call1_c_16 : Ref sig .tc := ⟨.hbm, 131, rfl⟩
abbrev main_call1_v64 : Ref sig .tc := ⟨.hbm, 132, rfl⟩
abbrev main_call1_v65 : Ref sig .tc := ⟨.hbm, 133, rfl⟩
abbrev main_call1_v66 : Ref sig .tc := ⟨.hbm, 134, rfl⟩
abbrev main_call1_v67 : Ref sig .tc := ⟨.hbm, 135, rfl⟩
abbrev main_call1_v68 : Ref sig .tc := ⟨.hbm, 136, rfl⟩
abbrev main_call1_v69 : Ref sig .tc := ⟨.hbm, 137, rfl⟩
abbrev main_call1_v70 : Ref sig .tc := ⟨.hbm, 138, rfl⟩
abbrev main_call1_v71 : Ref sig .tc := ⟨.hbm, 139, rfl⟩
abbrev main_call1_c_17 : Ref sig .tc := ⟨.hbm, 140, rfl⟩
abbrev main_call1_v72 : Ref sig .tc := ⟨.hbm, 141, rfl⟩
abbrev main_call1_v73 : Ref sig .tc := ⟨.hbm, 142, rfl⟩
abbrev main_call1_v74 : Ref sig .tc := ⟨.hbm, 143, rfl⟩
abbrev main_call1_c_18 : Ref sig .tc := ⟨.hbm, 144, rfl⟩
abbrev main_call1_v75 : Ref sig .tc := ⟨.hbm, 145, rfl⟩
abbrev main_call1_v76 : Ref sig .tc := ⟨.hbm, 146, rfl⟩
abbrev main_call1_c_19 : Ref sig .tc := ⟨.hbm, 147, rfl⟩
abbrev main_call1_v77 : Ref sig .tc := ⟨.hbm, 148, rfl⟩
abbrev main_call1_v78 : Ref sig .tc := ⟨.hbm, 149, rfl⟩
abbrev main_call1_v79 : Ref sig .tc := ⟨.hbm, 150, rfl⟩
abbrev main_call1_v80 : Ref sig .tc := ⟨.hbm, 151, rfl⟩
abbrev main_call1_v81 : Ref sig .tc := ⟨.hbm, 152, rfl⟩
abbrev main_call1_c_20 : Ref sig .tc := ⟨.hbm, 153, rfl⟩
abbrev main_call1_v82 : Ref sig .tc := ⟨.hbm, 154, rfl⟩
abbrev main_call1_v83 : Ref sig .tc := ⟨.hbm, 155, rfl⟩
abbrev main_call1_c_21 : Ref sig .tc := ⟨.hbm, 156, rfl⟩
abbrev main_call1_v84 : Ref sig .tc := ⟨.hbm, 157, rfl⟩
abbrev main_call1_v85 : Ref sig .tc := ⟨.hbm, 158, rfl⟩
abbrev main_call1_v86 : Ref sig .tc := ⟨.hbm, 159, rfl⟩
abbrev main_call1_v87 : Ref sig .tc := ⟨.hbm, 160, rfl⟩
abbrev main_call1_v88 : Ref sig .tc := ⟨.hbm, 161, rfl⟩
abbrev main_call1_c_22 : Ref sig .tc := ⟨.hbm, 162, rfl⟩
abbrev main_call1_v89 : Ref sig .tc := ⟨.hbm, 163, rfl⟩
abbrev main_call1_v90 : Ref sig .tc := ⟨.hbm, 164, rfl⟩
abbrev main_call1_c_23 : Ref sig .tc := ⟨.hbm, 165, rfl⟩
abbrev main_call1_v91 : Ref sig .tc := ⟨.hbm, 166, rfl⟩
abbrev main_call1_v92 : Ref sig .tc := ⟨.hbm, 167, rfl⟩
abbrev main_call1_v93 : Ref sig .tc := ⟨.hbm, 168, rfl⟩
abbrev main_call1_v94 : Ref sig .tc := ⟨.hbm, 169, rfl⟩
abbrev main_call1_v95 : Ref sig .tc := ⟨.hbm, 170, rfl⟩
abbrev main_call1_c_24 : Ref sig .tc := ⟨.hbm, 171, rfl⟩
abbrev main_call1_v96 : Ref sig .tc := ⟨.hbm, 172, rfl⟩
abbrev main_call1_v97 : Ref sig .tc := ⟨.hbm, 173, rfl⟩
abbrev main_call1_c_25 : Ref sig .tc := ⟨.hbm, 174, rfl⟩
abbrev main_call1_v98 : Ref sig .tc := ⟨.hbm, 175, rfl⟩
abbrev main_call1_v99 : Ref sig .tc := ⟨.hbm, 176, rfl⟩
abbrev main_call1_v100 : Ref sig .tc := ⟨.hbm, 177, rfl⟩
abbrev main_call1_v101 : Ref sig .tc := ⟨.hbm, 178, rfl⟩
abbrev main_call1_v102 : Ref sig .tc := ⟨.hbm, 179, rfl⟩
abbrev main_call1_v103 : Ref sig .tc := ⟨.hbm, 180, rfl⟩
abbrev main_call1_v104 : Ref sig .tc := ⟨.hbm, 181, rfl⟩
abbrev main_call1_v105 : Ref sig .tc := ⟨.hbm, 182, rfl⟩
abbrev main_call1_c_26 : Ref sig .tc := ⟨.hbm, 183, rfl⟩
abbrev main_call1_v106 : Ref sig .tc := ⟨.hbm, 184, rfl⟩
abbrev main_call1_v107 : Ref sig .tc := ⟨.hbm, 185, rfl⟩
abbrev main_call1_v108 : Ref sig .tc := ⟨.hbm, 186, rfl⟩
abbrev main_call1_c_27 : Ref sig .tc := ⟨.hbm, 187, rfl⟩
abbrev main_call1_v109 : Ref sig .tc := ⟨.hbm, 188, rfl⟩
abbrev main_call1_v110 : Ref sig .tc := ⟨.hbm, 189, rfl⟩
abbrev main_call1_c_28 : Ref sig .tc := ⟨.hbm, 190, rfl⟩
abbrev main_call1_v111 : Ref sig .tc := ⟨.hbm, 191, rfl⟩
abbrev main_call1_v112 : Ref sig .tc := ⟨.hbm, 192, rfl⟩
abbrev main_call1_v113 : Ref sig .tc := ⟨.hbm, 193, rfl⟩
abbrev main_call1_v114 : Ref sig .tc := ⟨.hbm, 194, rfl⟩
abbrev main_call1_v115 : Ref sig .tc := ⟨.hbm, 195, rfl⟩
abbrev main_call1_c_29 : Ref sig .tc := ⟨.hbm, 196, rfl⟩
abbrev main_call1_v116 : Ref sig .tc := ⟨.hbm, 197, rfl⟩
abbrev main_call1_v117 : Ref sig .tc := ⟨.hbm, 198, rfl⟩
abbrev main_call1_c_30 : Ref sig .tc := ⟨.hbm, 199, rfl⟩
abbrev main_call1_v118 : Ref sig .tc := ⟨.hbm, 200, rfl⟩
abbrev main_call1_v119 : Ref sig .tc := ⟨.hbm, 201, rfl⟩
abbrev main_call1_v120 : Ref sig .tc := ⟨.hbm, 202, rfl⟩
abbrev main_call1_v121 : Ref sig .tc := ⟨.hbm, 203, rfl⟩
abbrev main_call1_v122 : Ref sig .tc := ⟨.hbm, 204, rfl⟩
abbrev main_call1_c_31 : Ref sig .tc := ⟨.hbm, 205, rfl⟩
abbrev main_call1_v123 : Ref sig .tc := ⟨.hbm, 206, rfl⟩
abbrev main_call1_v124 : Ref sig .tc := ⟨.hbm, 207, rfl⟩
abbrev main_call1_c_32 : Ref sig .tc := ⟨.hbm, 208, rfl⟩
abbrev main_call1_v125 : Ref sig .tc := ⟨.hbm, 209, rfl⟩
abbrev main_call1_v126 : Ref sig .tc := ⟨.hbm, 210, rfl⟩
abbrev main_call1_v127 : Ref sig .tc := ⟨.hbm, 211, rfl⟩
abbrev main_call1_v128 : Ref sig .tc := ⟨.hbm, 212, rfl⟩
abbrev main_call1_v129 : Ref sig .tc := ⟨.hbm, 213, rfl⟩
abbrev main_call1_c_33 : Ref sig .tc := ⟨.hbm, 214, rfl⟩
abbrev main_call1_v130 : Ref sig .tc := ⟨.hbm, 215, rfl⟩
abbrev main_call1_v131 : Ref sig .tc := ⟨.hbm, 216, rfl⟩
abbrev main_call1_c_34 : Ref sig .tc := ⟨.hbm, 217, rfl⟩
abbrev main_call1_v132 : Ref sig .tc := ⟨.hbm, 218, rfl⟩
abbrev main_call1_v133 : Ref sig .tc := ⟨.hbm, 219, rfl⟩
abbrev main_call1_v134 : Ref sig .tc := ⟨.hbm, 220, rfl⟩
abbrev main_call1_v135 : Ref sig .tc := ⟨.hbm, 221, rfl⟩
abbrev main_call1_v136 : Ref sig .tc := ⟨.hbm, 222, rfl⟩
abbrev main_call1_v137 : Ref sig .tc := ⟨.hbm, 223, rfl⟩
abbrev main_call1_v138 : Ref sig .tc := ⟨.hbm, 224, rfl⟩
abbrev main_call1_v139 : Ref sig .tc := ⟨.hbm, 225, rfl⟩
abbrev main_call1_c_35 : Ref sig .tc := ⟨.hbm, 226, rfl⟩
abbrev main_call1_v140 : Ref sig .tc := ⟨.hbm, 227, rfl⟩
abbrev main_call1_v141 : Ref sig .tc := ⟨.hbm, 228, rfl⟩
abbrev main_call1_v142 : Ref sig .tc := ⟨.hbm, 229, rfl⟩
abbrev main_call1_c_36 : Ref sig .tc := ⟨.hbm, 230, rfl⟩
abbrev main_call1_v143 : Ref sig .tc := ⟨.hbm, 231, rfl⟩
abbrev main_call1_v144 : Ref sig .tc := ⟨.hbm, 232, rfl⟩
abbrev main_call1_c_37 : Ref sig .tc := ⟨.hbm, 233, rfl⟩
abbrev main_call1_v145 : Ref sig .tc := ⟨.hbm, 234, rfl⟩
abbrev main_call1_v146 : Ref sig .tc := ⟨.hbm, 235, rfl⟩
abbrev main_call1_v147 : Ref sig .tc := ⟨.hbm, 236, rfl⟩
abbrev main_call1_v148 : Ref sig .tc := ⟨.hbm, 237, rfl⟩
abbrev main_call1_v149 : Ref sig .tc := ⟨.hbm, 238, rfl⟩
abbrev main_call1_c_38 : Ref sig .tc := ⟨.hbm, 239, rfl⟩
abbrev main_call1_v150 : Ref sig .tc := ⟨.hbm, 240, rfl⟩
abbrev main_call1_v151 : Ref sig .tc := ⟨.hbm, 241, rfl⟩
abbrev main_call1_c_39 : Ref sig .tc := ⟨.hbm, 242, rfl⟩
abbrev main_call1_v152 : Ref sig .tc := ⟨.hbm, 243, rfl⟩
abbrev main_call1_v153 : Ref sig .tc := ⟨.hbm, 244, rfl⟩
abbrev main_call1_v154 : Ref sig .tc := ⟨.hbm, 245, rfl⟩
abbrev main_call1_v155 : Ref sig .tc := ⟨.hbm, 246, rfl⟩
abbrev main_call1_v156 : Ref sig .tc := ⟨.hbm, 247, rfl⟩
abbrev main_call1_c_40 : Ref sig .tc := ⟨.hbm, 248, rfl⟩
abbrev main_call1_v157 : Ref sig .tc := ⟨.hbm, 249, rfl⟩
abbrev main_call1_v158 : Ref sig .tc := ⟨.hbm, 250, rfl⟩
abbrev main_call1_c_41 : Ref sig .tc := ⟨.hbm, 251, rfl⟩
abbrev main_call1_v159 : Ref sig .tc := ⟨.hbm, 252, rfl⟩
abbrev main_call1_v160 : Ref sig .tc := ⟨.hbm, 253, rfl⟩
abbrev main_call1_v161 : Ref sig .tc := ⟨.hbm, 254, rfl⟩
abbrev main_call1_v162 : Ref sig .tc := ⟨.hbm, 255, rfl⟩
abbrev main_call1_v163 : Ref sig .tc := ⟨.hbm, 256, rfl⟩
abbrev main_call1_c_42 : Ref sig .tc := ⟨.hbm, 257, rfl⟩
abbrev main_call1_v164 : Ref sig .tc := ⟨.hbm, 258, rfl⟩
abbrev main_call1_v165 : Ref sig .tc := ⟨.hbm, 259, rfl⟩
abbrev main_call1_c_43 : Ref sig .tc := ⟨.hbm, 260, rfl⟩
abbrev main_call1_v166 : Ref sig .tc := ⟨.hbm, 261, rfl⟩
abbrev main_call1_v167 : Ref sig .tc := ⟨.hbm, 262, rfl⟩
abbrev main_call1_v168 : Ref sig .tc := ⟨.hbm, 263, rfl⟩
abbrev main_call1_v169 : Ref sig .tc := ⟨.hbm, 264, rfl⟩
abbrev main_call1_v170 : Ref sig .tc := ⟨.hbm, 265, rfl⟩
abbrev main_v36_0 : Ref sig .tc := ⟨.hbm, 266, rfl⟩
abbrev main_call1_v172 : Ref sig .tc := ⟨.hbm, 267, rfl⟩
abbrev main_call1_v173 : Ref sig .tc := ⟨.hbm, 268, rfl⟩
abbrev main_call1_c_44 : Ref sig .tc := ⟨.hbm, 269, rfl⟩
abbrev main_call1_v174 : Ref sig .tc := ⟨.hbm, 270, rfl⟩
abbrev main_v36_1 : Ref sig .tc := ⟨.hbm, 271, rfl⟩
abbrev main_v37 : Ref sig .tc := ⟨.hbm, 272, rfl⟩
abbrev main_c_9 : Ref sig .tc := ⟨.hbm, 273, rfl⟩
abbrev main_v38 : Ref sig .tc := ⟨.hbm, 274, rfl⟩
abbrev main_v39 : Ref sig .tc := ⟨.hbm, 275, rfl⟩
abbrev main_c_10 : Ref sig .tc := ⟨.hbm, 276, rfl⟩
abbrev main_v40 : Ref sig .tc := ⟨.hbm, 277, rfl⟩
abbrev main_v41 : Ref sig .tc := ⟨.hbm, 278, rfl⟩
abbrev main_v42 : Ref sig .tc := ⟨.hbm, 279, rfl⟩
abbrev main_cst_11 : Ref sig .tc := ⟨.hbm, 280, rfl⟩
abbrev main_v43 : Ref sig .tc := ⟨.hbm, 281, rfl⟩
abbrev main_v44 : Ref sig .tc := ⟨.hbm, 282, rfl⟩
abbrev main_cst_12 : Ref sig .tc := ⟨.hbm, 283, rfl⟩
abbrev main_v45 : Ref sig .tc := ⟨.hbm, 284, rfl⟩
abbrev main_v46 : Ref sig .tc := ⟨.hbm, 285, rfl⟩
abbrev main_cst_13 : Ref sig .tc := ⟨.hbm, 286, rfl⟩
abbrev main_v47 : Ref sig .tc := ⟨.hbm, 287, rfl⟩
abbrev main_v48 : Ref sig .tc := ⟨.hbm, 288, rfl⟩
abbrev main_cst_14 : Ref sig .tc := ⟨.hbm, 289, rfl⟩
abbrev main_v49 : Ref sig .tc := ⟨.hbm, 290, rfl⟩
abbrev main_v50 : Ref sig .tc := ⟨.hbm, 291, rfl⟩
abbrev main_v51 : Ref sig .tc := ⟨.hbm, 292, rfl⟩
abbrev main_v52 : Ref sig .tc := ⟨.hbm, 293, rfl⟩
abbrev main_v53 : Ref sig .tc := ⟨.hbm, 294, rfl⟩
abbrev main_v54 : Ref sig .tc := ⟨.hbm, 295, rfl⟩
abbrev main_v55 : Ref sig .tc := ⟨.hbm, 296, rfl⟩
abbrev main_call2_v0 : Ref sig .tc := ⟨.hbm, 297, rfl⟩
abbrev main_call2_cst : Ref sig .tc := ⟨.hbm, 298, rfl⟩
abbrev main_call2_c : Ref sig .tc := ⟨.hbm, 299, rfl⟩
abbrev main_call2_v1_0 : Ref sig .tc := ⟨.hbm, 300, rfl⟩
abbrev main_v56 : Ref sig .tc := ⟨.hbm, 301, rfl⟩

abbrev nD : Nat := 1
abbrev τ : Topo := Topo.v7x

variable {F : FTy → Type} [FloatOps F]
-- ==== Proof.Words.lean ====
/-
  The random word as a function of machine words alone: the twenty-round counter hash with key `(0, 42)` that both
  programs run at every array position, written without any array.
-/
module

public import Idealize.ShloMosaic.PureOps.Ideal

@[expose] public section

namespace Cert.Rng

/-- A 32-bit machine word. -/
abbrev Word := BitVec 32

/-- One round: add, rotate the second word left by `r` (`l = 32 - r`), and exclusive-or the sum in. -/
def mix (r l : Word) (p : Word × Word) : Word × Word :=
  (p.1 + p.2, (p.1 + p.2) ^^^ (p.2 <<< r ||| p.2 >>> l))

/-- Four rounds with the first set of rotations. -/
def quadA (p : Word × Word) : Word × Word :=
  mix 6#32 26#32 (mix 26#32 6#32 (mix 15#32 17#32 (mix 13#32 19#32 p)))

/-- Four rounds with the second set of rotations. -/
def quadB (p : Word × Word) : Word × Word :=
  mix 24#32 8#32 (mix 16#32 16#32 (mix 29#32 3#32 (mix 17#32 15#32 p)))

/-- The key words `a`, `b` and the step number `n` added in after four rounds. -/
def inject (a b n : Word) (p : Word × Word) : Word × Word :=
  (p.1 + a, p.2 + b + n)

/-- The third key word. -/
def key2 (k0 k1 : Word) : Word := k0 ^^^ k1 ^^^ 466688986#32

/-- The counter hash: the counter `c` (high word, low word) under the key `(k0, k1)`. -/
def hash (k0 k1 : Word) (c : Word × Word) : Word × Word :=
  inject (key2 k0 k1) k0 5#32 (quadA
    (inject k1 (key2 k0 k1) 4#32 (quadB
      (inject k0 k1 3#32 (quadA
        (inject (key2 k0 k1) k0 2#32 (quadB
          (inject k1 (key2 k0 k1) 1#32 (quadA (c.1 + k0, c.2 + k1))))))))))

/-- The random word at flat position `n`: the two words of the hash of `n` under the key `(0, 42)`, combined. -/
def word (n : Word) : Word := (hash 0#32 42#32 (0#32, n)).1 ^^^ (hash 0#32 42#32 (0#32, n)).2

end Cert.Rng
-- ==== Proof.HostHash.lean ====
/-
  The reference's counter hash. Its 223 host operations are five groups of four rounds, each group followed by an
  addition of key words. One round and one key addition are stated once, as operation lists over any buffers, with what
  they compute at an index; the whole hash is then twenty uses of the first and five of the second.
-/
module

public import proofs.«01_k».proof.Proof.Gen.ReferenceIdeal
public import proofs.«01_k».proof.Proof.Words
public import Idealize.ShloMosaic.Lib.StableHlo.Run
public import Idealize.ShloMosaic.Lib.Claim
public import Idealize.ShloMosaic.Lib.Pointwise

@[expose] public section

set_option maxRecDepth 16384

noncomputable section

namespace Cert.Rng.Host

open Idealize.ShloMosaic Idealize.ShloMosaic.StableHlo Idealize.SL.Sem Cert.ReferenceIdeal Cert.ReferenceIdeal.Gen

/-- The buffers' contents, over the reals. -/
abbrev Cont := Valuation τ sig (Elt Ideal)
/-- An operation of the reference. -/
abbrev Op := HloOp τ sig (Elt Ideal)
/-- A buffer holding one word. -/
abbrev One := TRef sig ⟨S_, .i32⟩
/-- A buffer holding an array of words. -/
abbrev Arr := TRef sig ⟨S128x1x100000, .i32⟩

/-! ## Reading a typed buffer

What an operation leaves in its result's buffer (`rd_unary` and its like), and that it leaves every other buffer as it was
(`rd_unary_ne` and its like). -/

section Read
variable {T Ta Tb Tc Te Ty : BufTy}

/-- What the buffer holds, at its value's type. -/
def rd (x : TRef sig T) (V : Cont) : T.Contents (Elt Ideal) := x.ofBuf (V (Proc.devRef .tc x.ref))

/-- Written to a buffer and read back, a value is itself. -/
theorem ofBuf_toBuf (y : TRef sig Ty) (v : Ty.Contents (Elt Ideal)) : y.ofBuf (y.toBuf v) = v := by
  obtain ⟨r, rfl, _, _⟩ := y; rfl

/-- After an operation without operands its result buffer holds the value. -/
theorem rd_nullary (y : TRef sig Ty) (v : Ty.Contents (Elt Ideal)) (V : Cont) :
    rd y ((TRef.nullary y v : Op).result V) = v :=
  (congrArg y.ofBuf (nullary_result' ..)).trans (ofBuf_toBuf y _)

/-- After an operation of one operand its result buffer holds the function of what the operand's buffer held. -/
theorem rd_unary (x : TRef sig Ta) (y : TRef sig Ty) (f : Ta.Contents (Elt Ideal) → Ty.Contents (Elt Ideal)) (V : Cont) :
    rd y ((TRef.unary x y f : Op).result V) = f (rd x V) :=
  (congrArg y.ofBuf (unary_result' ..)).trans (ofBuf_toBuf y _)

/-- The same for two operands. -/
theorem rd_binary (a : TRef sig Ta) (b : TRef sig Tb) (y : TRef sig Ty)
    (f : Ta.Contents (Elt Ideal) → Tb.Contents (Elt Ideal) → Ty.Contents (Elt Ideal)) (V : Cont) :
    rd y ((TRef.binary a b y f : Op).result V) = f (rd a V) (rd b V) :=
  (congrArg y.ofBuf (binary_result' ..)).trans (ofBuf_toBuf y _)

/-- The same for three operands. -/
theorem rd_ternary (c : TRef sig Tc) (a : TRef sig Ta) (b : TRef sig Tb) (y : TRef sig Ty)
    (f : Tc.Contents (Elt Ideal) → Ta.Contents (Elt Ideal) → Tb.Contents (Elt Ideal) → Ty.Contents (Elt Ideal)) (V : Cont) :
    rd y ((TRef.ternary c a b y f : Op).result V) = f (rd c V) (rd a V) (rd b V) :=
  (congrArg y.ofBuf (ternary_result' ..)).trans (ofBuf_toBuf y _)

/-- The same for four operands. -/
theorem rd_quaternary (a : TRef sig Ta) (b : TRef sig Tb) (c : TRef sig Tc) (e : TRef sig Te) (y : TRef sig Ty)
    (f : Ta.Contents (Elt Ideal) → Tb.Contents (Elt Ideal) → Tc.Contents (Elt Ideal) → Te.Contents (Elt Ideal) →
      Ty.Contents (Elt Ideal)) (V : Cont) :
    rd y ((TRef.quaternary a b c e y f : Op).result V) = f (rd a V) (rd b V) (rd c V) (rd e V) :=
  (congrArg y.ofBuf (quaternary_result' ..)).trans (ofBuf_toBuf y _)

/-- After a reshape its result buffer holds the operand in the new shape. -/
theorem rd_reshape (x : TRef sig Ta) (y : TRef sig Ty) (he : Ta.elt = Ty.elt) (hn : Ta.shape.ShapeCasts Ty.shape) (V : Cont) :
    rd y ((TRef.reshape x y he hn : Op).result V) = fun i => he ▸ shapeCast Ty.shape (rd x V) hn i := by
  obtain ⟨rx, rfl, _, _⟩ := x
  obtain ⟨ry, rfl, _, _⟩ := y
  exact reshape_result' ..

/-- An operation without operands leaves every other buffer as it was. -/
theorem rd_nullary_ne (r : TRef sig T) (y : TRef sig Ty) (v : Ty.Contents (Elt Ideal)) (V : Cont) (h : r.ref ≠ y.ref) :
    rd r ((TRef.nullary y v : Op).result V) = rd r V :=
  congrArg r.ofBuf (nullary_result_ne' (h := h) ..)

/-- So does one of one operand. -/
theorem rd_unary_ne (r : TRef sig T) (x : TRef sig Ta) (y : TRef sig Ty)
    (f : Ta.Contents (Elt Ideal) → Ty.Contents (Elt Ideal)) (V : Cont) (h : r.ref ≠ y.ref) :
    rd r ((TRef.unary x y f : Op).result V) = rd r V :=
  congrArg r.ofBuf (unary_result_ne' (h := h) ..)

/-- So does one of two operands. -/
theorem rd_binary_ne (r : TRef sig T) (a : TRef sig Ta) (b : TRef sig Tb) (y : TRef sig Ty)
    (f : Ta.Contents (Elt Ideal) → Tb.Contents (Elt Ideal) → Ty.Contents (Elt Ideal)) (V : Cont) (h : r.ref ≠ y.ref) :
    rd r ((TRef.binary a b y f : Op).result V) = rd r V :=
  congrArg r.ofBuf (binary_result_ne' (h := h) ..)

/-- So does one of three operands. -/
theorem rd_ternary_ne (r : TRef sig T) (c : TRef sig Tc) (a : TRef sig Ta) (b : TRef sig Tb) (y : TRef sig Ty)
    (f : Tc.Contents (Elt Ideal) → Ta.Contents (Elt Ideal) → Tb.Contents (Elt Ideal) → Ty.Contents (Elt Ideal)) (V : Cont)
    (h : r.ref ≠ y.ref) : rd r ((TRef.ternary c a b y f : Op).result V) = rd r V :=
  congrArg r.ofBuf (ternary_result_ne' (h := h) ..)

/-- So does one of four operands. -/
theorem rd_quaternary_ne (r : TRef sig T) (a : TRef sig Ta) (b : TRef sig Tb) (c : TRef sig Tc) (e : TRef sig Te) (y : TRef sig Ty)
    (f : Ta.Contents (Elt Ideal) → Tb.Contents (Elt Ideal) → Tc.Contents (Elt Ideal) → Te.Contents (Elt Ideal) →
      Ty.Contents (Elt Ideal)) (V : Cont) (h : r.ref ≠ y.ref) :
    rd r ((TRef.quaternary a b c e y f : Op).result V) = rd r V :=
  congrArg r.ofBuf (quaternary_result_ne' (h := h) ..)

/-- So does a reshape. -/
theorem rd_reshape_ne (r : TRef sig T) (x : TRef sig Ta) (y : TRef sig Ty) (he : Ta.elt = Ty.elt)
    (hn : Ta.shape.ShapeCasts Ty.shape) (V : Cont) (h : r.ref ≠ y.ref) :
    rd r ((TRef.reshape x y he hn : Op).result V) = rd r V :=
  congrArg r.ofBuf (reshape_result_ne' (h := h) ..)

/-- A buffer that no operation of a list writes is as it was. -/
theorem rd_kept (ops : List Op) (W : List (Ref sig .tc))
    (hW : ops.map HloOp.writes = W.map fun w => {Proc.devRef (τ := τ) .tc w}) (r : TRef sig T) (hr : r.ref ∉ W) (V : Cont) :
    rd r (after ops V) = rd r V := by
  rw [rd, after_of_writes_sub ops V (forall_writes_sub_of_map hW) hr]; rfl

end Read

/-- Two lists of operations in a row. -/
theorem after_app (k l : List Op) (V : Cont) : after (k ++ l) V = after l (after k V) := by
  induction k generalizing V with
  | nil => rfl
  | cons op k ih => exact ih _

/-! ## One round, one key addition -/

/-- One word spread over the array. -/
abbrev spread : (⟨S_, .i32⟩ : BufTy).Contents (Elt Ideal) → (⟨S128x1x100000, .i32⟩ : BufTy).Contents (Elt Ideal) :=
  broadcastInDim S128x1x100000 ![] Facts₀.bcast_S_S128x1x100000

/-- The spread word, read anywhere, is the word. -/
theorem spread_apply (v : (⟨S_, .i32⟩ : BufTy).Contents (Elt Ideal)) (w : Word) (h : ∀ i, v i = w) (j : S128x1x100000.Idx) :
    spread v j = w := h _

/-- The nine operations of a round: sum, rotation by way of two shifts, exclusive-or. -/
def roundOps (x y s : Arr) (c0 : One) (b0 l : Arr) (c1 : One) (b1 h o z : Arr) (r t : Word) : List Op :=
  [TRef.binary x y s addi,
   TRef.nullary c0 (constantI S_ 32 r),
   TRef.unary c0 b0 spread,
   TRef.binary y b0 l Host.shli,
   TRef.nullary c1 (constantI S_ 32 t),
   TRef.unary c1 b1 spread,
   TRef.binary y b1 h Host.shrui,
   TRef.binary l h o ori,
   TRef.binary s o z xori]

/-- The seven operations of a key addition. -/
def keyOps (x y : Arr) (a : One) (b1 x' : Arr) (b : One) (b2 t : Arr) (c : One) (b3 y' : Arr) (n : Word) : List Op :=
  [TRef.unary a b1 spread,
   TRef.binary x b1 x' addi,
   TRef.unary b b2 spread,
   TRef.binary y b2 t addi,
   TRef.nullary c (constantI S_ 32 n),
   TRef.unary c b3 spread,
   TRef.binary t b3 y' addi]

/-- The key words are where the hash keeps them, and the buffers `x`, `y` hold the pair of words `p j` at each index `j`. -/
structure Holds (k0 k1 : Word) (V : Cont) (x y : Arr) (p : S128x1x100000.Idx → Word × Word) : Prop where
  key0 : ∀ i, rd (.of main_v18 : One) V i = k0
  key1 : ∀ i, rd (.of main_v20 : One) V i = k1
  key2 : ∀ i, rd main_call1.v1 V i = Rng.key2 k0 k1
  fst : ∀ j, rd x V j = (p j).1
  snd : ∀ j, rd y V j = (p j).2

/-- The buffers a round writes. -/
abbrev roundRefs (s : Arr) (c0 : One) (b0 l : Arr) (c1 : One) (b1 h o z : Arr) : List (Ref sig .tc) :=
  [s.ref, c0.ref, b0.ref, l.ref, c1.ref, b1.ref, h.ref, o.ref, z.ref]

/-- The buffers a key addition writes. -/
abbrev keyRefs (b1 x' b2 t : Arr) (c : One) (b3 y' : Arr) : List (Ref sig .tc) :=
  [b1.ref, x'.ref, b2.ref, t.ref, c.ref, b3.ref, y'.ref]

/-- The three buffers of key words are not among `W`. -/
abbrev KeysApart (W : List (Ref sig .tc)) : Prop := main_v18 ∉ W ∧ main_v20 ∉ W ∧ main_call1_v1 ∉ W

/-- A round takes the pair `p j` to `mix r t (p j)`. -/
theorem round_holds {k0 k1 : Word} {V : Cont} {x y : Arr} {p : S128x1x100000.Idx → Word × Word} (H : Holds k0 k1 V x y p)
    (s : Arr) (c0 : One) (b0 l : Arr) (c1 : One) (b1 h o z : Arr) (r t : Word)
    (hn : (y.ref :: roundRefs s c0 b0 l c1 b1 h o z).Nodup) (hk : KeysApart (roundRefs s c0 b0 l c1 b1 h o z))
    (hr : r.toNat < 32) (ht : t.toNat < 32) :
    Holds k0 k1 (after (roundOps x y s c0 b0 l c1 b1 h o z r t) V) s z fun j => mix r t (p j) := by
  have hW : (roundOps x y s c0 b0 l c1 b1 h o z r t).map HloOp.writes
      = (roundRefs s c0 b0 l c1 b1 h o z).map fun w => {Proc.devRef (τ := τ) .tc w} := rfl
  simp only [roundRefs, List.nodup_cons, List.mem_cons, List.not_mem_nil, or_false, not_or] at hn
  refine ⟨?_, ?_, ?_, ?_, ?_⟩
  · rw [rd_kept _ _ hW _ hk.1]; exact H.key0
  · rw [rd_kept _ _ hW _ hk.2.1]; exact H.key1
  · rw [rd_kept _ _ hW _ hk.2.2]; exact H.key2
  · intro j
    simp only [roundOps, after_cons, after_nil]
    simp (disch := simp_all only [not_false_eq_true, ne_eq, and_self]) only [rd_binary, rd_binary_ne, rd_unary_ne, rd_nullary_ne]
    show rd x V j + rd y V j = _
    rw [H.fst, H.snd]; rfl
  · intro j
    simp only [roundOps, after_cons, after_nil]
    simp (disch := simp_all only [not_false_eq_true, ne_eq, and_self]) only
      [rd_binary, rd_unary, rd_nullary, rd_binary_ne, rd_unary_ne, rd_nullary_ne]
    show (rd x V j + rd y V j) ^^^ (IntOp.shli .host (rd y V j) r ||| IntOp.shrui .host (rd y V j) t) = _
    rw [H.fst, H.snd, IntOp.shli, IntOp.shrui, if_pos hr, if_pos ht]; rfl

/-- A key addition takes the pair `p j` to `inject ka kb n (p j)`. -/
theorem key_holds {k0 k1 : Word} {V : Cont} {x y : Arr} {p : S128x1x100000.Idx → Word × Word} (H : Holds k0 k1 V x y p)
    (a : One) (b1 x' : Arr) (b : One) (b2 t : Arr) (c : One) (b3 y' : Arr) (n ka kb : Word)
    (ha : ∀ i, rd a V i = ka) (hb : ∀ i, rd b V i = kb)
    (hn : (x.ref :: y.ref :: a.ref :: keyRefs b1 x' b2 t c b3 y').Nodup) (hn' : b.ref ∉ keyRefs b1 x' b2 t c b3 y')
    (hk : KeysApart (keyRefs b1 x' b2 t c b3 y')) :
    Holds k0 k1 (after (keyOps x y a b1 x' b b2 t c b3 y' n) V) x' y' fun j => inject ka kb n (p j) := by
  have hW : (keyOps x y a b1 x' b b2 t c b3 y' n).map HloOp.writes
      = (keyRefs b1 x' b2 t c b3 y').map fun w => {Proc.devRef (τ := τ) .tc w} := rfl
  simp only [keyRefs, List.nodup_cons, List.mem_cons, List.not_mem_nil, or_false, not_or] at hn hn'
  refine ⟨?_, ?_, ?_, ?_, ?_⟩
  · rw [rd_kept _ _ hW _ hk.1]; exact H.key0
  · rw [rd_kept _ _ hW _ hk.2.1]; exact H.key1
  · rw [rd_kept _ _ hW _ hk.2.2]; exact H.key2
  · intro j
    simp only [keyOps, after_cons, after_nil]
    simp (disch := simp_all only [not_false_eq_true, ne_eq, and_self]) only
      [rd_binary, rd_unary, rd_binary_ne, rd_unary_ne, rd_nullary_ne]
    show rd x V j + spread (rd a V) j = _
    rw [H.fst, spread_apply _ _ ha]; rfl
  · intro j
    simp only [keyOps, after_cons, after_nil]
    simp (disch := simp_all only [not_false_eq_true, ne_eq, and_self]) only
      [rd_binary, rd_unary, rd_nullary, rd_binary_ne, rd_unary_ne, rd_nullary_ne]
    show rd y V j + spread (rd b V) j + n = _
    rw [H.snd, spread_apply _ _ hb]; rfl

/-! ## The whole hash -/

section Whole

/-- The operations before the first round: the third key word, and the key added to the counter. -/
def startOps : List Op :=
  [TRef.binary (.of main_v18) (.of main_v20) main_call1.v0 xori,
   TRef.nullary main_call1.c (constantI S_ 32 466688986#32),
   TRef.binary main_call1.v0 main_call1.c main_call1.v1 xori,
   TRef.unary (.of main_v18) main_call1.v2 spread,
   TRef.binary (.of main_v35) main_call1.v2 main_call1.v3 addi,
   TRef.unary (.of main_v20) main_call1.v4 spread,
   TRef.binary (.of main_v34) main_call1.v4 main_call1.v5 addi]

/-- The operations of group 1: four rounds, one key addition. -/
def groupOps1 : List Op :=
  roundOps main_call1.v3 main_call1.v5 main_call1.v6 main_call1.c_0 main_call1.v7 main_call1.v8 main_call1.c_1 main_call1.v9 main_call1.v10 main_call1.v11 main_call1.v12 13#32 19#32
    ++ roundOps main_call1.v6 main_call1.v12 main_call1.v13 main_call1.c_2 main_call1.v14 main_call1.v15 main_call1.c_3 main_call1.v16 main_call1.v17 main_call1.v18 main_call1.v19 15#32 17#32
    ++ roundOps main_call1.v13 main_call1.v19 main_call1.v20 main_call1.c_4 main_call1.v21 main_call1.v22 main_call1.c_5 main_call1.v23 main_call1.v24 main_call1.v25 main_call1.v26 26#32 6#32
    ++ roundOps main_call1.v20 main_call1.v26 main_call1.v27 main_call1.c_6 main_call1.v28 main_call1.v29 main_call1.c_7 main_call1.v30 main_call1.v31 main_call1.v32 main_call1.v33 6#32 26#32
    ++ keyOps main_call1.v27 main_call1.v33 (.of main_v20) main_call1.v34 main_call1.v35 main_call1.v1 main_call1.v36 main_call1.v37 main_call1.c_8 main_call1.v38 main_call1.v39 1#32

/-- Group 1 on a pair of words. -/
theorem group1_holds {k0 k1 : Word} {V : Cont} {p : S128x1x100000.Idx → Word × Word}
    (H : Holds k0 k1 V main_call1.v3 main_call1.v5 p) :
    Holds k0 k1 (after groupOps1 V) main_call1.v35 main_call1.v39 fun j =>
      inject k1 (Rng.key2 k0 k1) 1#32 (quadA (p j)) := by
  have H := round_holds H main_call1.v6 main_call1.c_0 main_call1.v7 main_call1.v8 main_call1.c_1 main_call1.v9 main_call1.v10 main_call1.v11 main_call1.v12 13#32 19#32 (by decide) (by decide) (by decide) (by decide)
  have H := round_holds H main_call1.v13 main_call1.c_2 main_call1.v14 main_call1.v15 main_call1.c_3 main_call1.v16 main_call1.v17 main_call1.v18 main_call1.v19 15#32 17#32 (by decide) (by decide) (by decide) (by decide)
  have H := round_holds H main_call1.v20 main_call1.c_4 main_call1.v21 main_call1.v22 main_call1.c_5 main_call1.v23 main_call1.v24 main_call1.v25 main_call1.v26 26#32 6#32 (by decide) (by decide) (by decide) (by decide)
  have H := round_holds H main_call1.v27 main_call1.c_6 main_call1.v28 main_call1.v29 main_call1.c_7 main_call1.v30 main_call1.v31 main_call1.v32 main_call1.v33 6#32 26#32 (by decide) (by decide) (by decide) (by decide)
  have H := key_holds H (.of main_v20) main_call1.v34 main_call1.v35 main_call1.v1 main_call1.v36 main_call1.v37 main_call1.c_8 main_call1.v38 main_call1.v39 1#32 _ _ H.key1 H.key2 (by decide) (by decide) (by decide)
  rw [groupOps1, after_app, after_app, after_app, after_app]; exact H

/-- The operations of group 2: four rounds, one key addition. -/
def groupOps2 : List Op :=
  roundOps main_call1.v35 main_call1.v39 main_call1.v40 main_call1.c_9 main_call1.v41 main_call1.v42 main_call1.c_10 main_call1.v43 main_call1.v44 main_call1.v45 main_call1.v46 17#32 15#32
    ++ roundOps main_call1.v40 main_call1.v46 main_call1.v47 main_call1.c_11 main_call1.v48 main_call1.v49 main_call1.c_12 main_call1.v50 main_call1.v51 main_call1.v52 main_call1.v53 29#32 3#32
    ++ roundOps main_call1.v47 main_call1.v53 main_call1.v54 main_call1.c_13 main_call1.v55 main_call1.v56 main_call1.c_14 main_call1.v57 main_call1.v58 main_call1.v59 main_call1.v60 16#32 16#32
    ++ roundOps main_call1.v54 main_call1.v60 main_call1.v61 main_call1.c_15 main_call1.v62 main_call1.v63 main_call1.c_16 main_call1.v64 main_call1.v65 main_call1.v66 main_call1.v67 24#32 8#32
    ++ keyOps main_call1.v61 main_call1.v67 main_call1.v1 main_call1.v68 main_call1.v69 (.of main_v18) main_call1.v70 main_call1.v71 main_call1.c_17 main_call1.v72 main_call1.v73 2#32

/-- Group 2 on a pair of words. -/
theorem group2_holds {k0 k1 : Word} {V : Cont} {p : S128x1x100000.Idx → Word × Word}
    (H : Holds k0 k1 V main_call1.v35 main_call1.v39 p) :
    Holds k0 k1 (after groupOps2 V) main_call1.v69 main_call1.v73 fun j =>
      inject (Rng.key2 k0 k1) k0 2#32 (quadB (p j)) := by
  have H := round_holds H main_call1.v40 main_call1.c_9 main_call1.v41 main_call1.v42 main_call1.c_10 main_call1.v43 main_call1.v44 main_call1.v45 main_call1.v46 17#32 15#32 (by decide) (by decide) (by decide) (by decide)
  have H := round_holds H main_call1.v47 main_call1.c_11 main_call1.v48 main_call1.v49 main_call1.c_12 main_call1.v50 main_call1.v51 main_call1.v52 main_call1.v53 29#32 3#32 (by decide) (by decide) (by decide) (by decide)
  have H := round_holds H main_call1.v54 main_call1.c_13 main_call1.v55 main_call1.v56 main_call1.c_14 main_call1.v57 main_call1.v58 main_call1.v59 main_call1.v60 16#32 16#32 (by decide) (by decide) (by decide) (by decide)
  have H := round_holds H main_call1.v61 main_call1.c_15 main_call1.v62 main_call1.v63 main_call1.c_16 main_call1.v64 main_call1.v65 main_call1.v66 main_call1.v67 24#32 8#32 (by decide) (by decide) (by decide) (by decide)
  have H := key_holds H main_call1.v1 main_call1.v68 main_call1.v69 (.of main_v18) main_call1.v70 main_call1.v71 main_call1.c_17 main_call1.v72 main_call1.v73 2#32 _ _ H.key2 H.key0 (by decide) (by decide) (by decide)
  rw [groupOps2, after_app, after_app, after_app, after_app]; exact H

/-- The operations of group 3: four rounds, one key addition. -/
def groupOps3 : List Op :=
  roundOps main_call1.v69 main_call1.v73 main_call1.v74 main_call1.c_18 main_call1.v75 main_call1.v76 main_call1.c_19 main_call1.v77 main_call1.v78 main_call1.v79 main_call1.v80 13#32 19#32
    ++ roundOps main_call1.v74 main_call1.v80 main_call1.v81 main_call1.c_20 main_call1.v82 main_call1.v83 main_call1.c_21 main_call1.v84 main_call1.v85 main_call1.v86 main_call1.v87 15#32 17#32
    ++ roundOps main_call1.v81 main_call1.v87 main_call1.v88 main_call1.c_22 main_call1.v89 main_call1.v90 main_call1.c_23 main_call1.v91 main_call1.v92 main_call1.v93 main_call1.v94 26#32 6#32
    ++ roundOps main_call1.v88 main_call1.v94 main_call1.v95 main_call1.c_24 main_call1.v96 main_call1.v97 main_call1.c_25 main_call1.v98 main_call1.v99 main_call1.v100 main_call1.v101 6#32 26#32
    ++ keyOps main_call1.v95 main_call1.v101 (.of main_v18) main_call1.v102 main_call1.v103 (.of main_v20) main_call1.v104 main_call1.v105 main_call1.c_26 main_call1.v106 main_call1.v107 3#32

/-- Group 3 on a pair of words. -/
theorem group3_holds {k0 k1 : Word} {V : Cont} {p : S128x1x100000.Idx → Word × Word}
    (H : Holds k0 k1 V main_call1.v69 main_call1.v73 p) :
    Holds k0 k1 (after groupOps3 V) main_call1.v103 main_call1.v107 fun j =>
      inject k0 k1 3#32 (quadA (p j)) := by
  have H := round_holds H main_call1.v74 main_call1.c_18 main_call1.v75 main_call1.v76 main_call1.c_19 main_call1.v77 main_call1.v78 main_call1.v79 main_call1.v80 13#32 19#32 (by decide) (by decide) (by decide) (by decide)
  have H := round_holds H main_call1.v81 main_call1.c_20 main_call1.v82 main_call1.v83 main_call1.c_21 main_call1.v84 main_call1.v85 main_call1.v86 main_call1.v87 15#32 17#32 (by decide) (by decide) (by decide) (by decide)
  have H := round_holds H main_call1.v88 main_call1.c_22 main_call1.v89 main_call1.v90 main_call1.c_23 main_call1.v91 main_call1.v92 main_call1.v93 main_call1.v94 26#32 6#32 (by decide) (by decide) (by decide) (by decide)
  have H := round_holds H main_call1.v95 main_call1.c_24 main_call1.v96 main_call1.v97 main_call1.c_25 main_call1.v98 main_call1.v99 main_call1.v100 main_call1.v101 6#32 26#32 (by decide) (by decide) (by decide) (by decide)
  have H := key_holds H (.of main_v18) main_call1.v102 main_call1.v103 (.of main_v20) main_call1.v104 main_call1.v105 main_call1.c_26 main_call1.v106 main_call1.v107 3#32 _ _ H.key0 H.key1 (by decide) (by decide) (by decide)
  rw [groupOps3, after_app, after_app, after_app, after_app]; exact H

/-- The operations of group 4: four rounds, one key addition. -/
def groupOps4 : List Op :=
  roundOps main_call1.v103 main_call1.v107 main_call1.v108 main_call1.c_27 main_call1.v109 main_call1.v110 main_call1.c_28 main_call1.v111 main_call1.v112 main_call1.v113 main_call1.v114 17#32 15#32
    ++ roundOps main_call1.v108 main_call1.v114 main_call1.v115 main_call1.c_29 main_call1.v116 main_call1.v117 main_call1.c_30 main_call1.v118 main_call1.v119 main_call1.v120 main_call1.v121 29#32 3#32
    ++ roundOps main_call1.v115 main_call1.v121 main_call1.v122 main_call1.c_31 main_call1.v123 main_call1.v124 main_call1.c_32 main_call1.v125 main_call1.v126 main_call1.v127 main_call1.v128 16#32 16#32
    ++ roundOps main_call1.v122 main_call1.v128 main_call1.v129 main_call1.c_33 main_call1.v130 main_call1.v131 main_call1.c_34 main_call1.v132 main_call1.v133 main_call1.v134 main_call1.v135 24#32 8#32
    ++ keyOps main_call1.v129 main_call1.v135 (.of main_v20) main_call1.v136 main_call1.v137 main_call1.v1 main_call1.v138 main_call1.v139 main_call1.c_35 main_call1.v140 main_call1.v141 4#32

/-- Group 4 on a pair of words. -/
theorem group4_holds {k0 k1 : Word} {V : Cont} {p : S128x1x100000.Idx → Word × Word}
    (H : Holds k0 k1 V main_call1.v103 main_call1.v107 p) :
    Holds k0 k1 (after groupOps4 V) main_call1.v137 main_call1.v141 fun j =>
      inject k1 (Rng.key2 k0 k1) 4#32 (quadB (p j)) := by
  have H := round_holds H main_call1.v108 main_call1.c_27 main_call1.v109 main_call1.v110 main_call1.c_28 main_call1.v111 main_call1.v112 main_call1.v113 main_call1.v114 17#32 15#32 (by decide) (by decide) (by decide) (by decide)
  have H := round_holds H main_call1.v115 main_call1.c_29 main_call1.v116 main_call1.v117 main_call1.c_30 main_call1.v118 main_call1.v119 main_call1.v120 main_call1.v121 29#32 3#32 (by decide) (by decide) (by decide) (by decide)
  have H := round_holds H main_call1.v122 main_call1.c_31 main_call1.v123 main_call1.v124 main_call1.c_32 main_call1.v125 main_call1.v126 main_call1.v127 main_call1.v128 16#32 16#32 (by decide) (by decide) (by decide) (by decide)
  have H := round_holds H main_call1.v129 main_call1.c_33 main_call1.v130 main_call1.v131 main_call1.c_34 main_call1.v132 main_call1.v133 main_call1.v134 main_call1.v135 24#32 8#32 (by decide) (by decide) (by decide) (by decide)
  have H := key_holds H (.of main_v20) main_call1.v136 main_call1.v137 main_call1.v1 main_call1.v138 main_call1.v139 main_call1.c_35 main_call1.v140 main_call1.v141 4#32 _ _ H.key1 H.key2 (by decide) (by decide) (by decide)
  rw [groupOps4, after_app, after_app, after_app, after_app]; exact H

/-- The operations of group 5: four rounds, one key addition. -/
def groupOps5 : List Op :=
  roundOps main_call1.v137 main_call1.v141 main_call1.v142 main_call1.c_36 main_call1.v143 main_call1.v144 main_call1.c_37 main_call1.v145 main_call1.v146 main_call1.v147 main_call1.v148 13#32 19#32
    ++ roundOps main_call1.v142 main_call1.v148 main_call1.v149 main_call1.c_38 main_call1.v150 main_call1.v151 main_call1.c_39 main_call1.v152 main_call1.v153 main_call1.v154 main_call1.v155 15#32 17#32
    ++ roundOps main_call1.v149 main_call1.v155 main_call1.v156 main_call1.c_40 main_call1.v157 main_call1.v158 main_call1.c_41 main_call1.v159 main_call1.v160 main_call1.v161 main_call1.v162 26#32 6#32
    ++ roundOps main_call1.v156 main_call1.v162 main_call1.v163 main_call1.c_42 main_call1.v164 main_call1.v165 main_call1.c_43 main_call1.v166 main_call1.v167 main_call1.v168 main_call1.v169 6#32 26#32
    ++ keyOps main_call1.v163 main_call1.v169 main_call1.v1 main_call1.v170 main_call1.v171 (.of main_v18) main_call1.v172 main_call1.v173 main_call1.c_44 main_call1.v174 main_call1.v175 5#32

/-- Group 5 on a pair of words. -/
theorem group5_holds {k0 k1 : Word} {V : Cont} {p : S128x1x100000.Idx → Word × Word}
    (H : Holds k0 k1 V main_call1.v137 main_call1.v141 p) :
    Holds k0 k1 (after groupOps5 V) main_call1.v171 main_call1.v175 fun j =>
      inject (Rng.key2 k0 k1) k0 5#32 (quadA (p j)) := by
  have H := round_holds H main_call1.v142 main_call1.c_36 main_call1.v143 main_call1.v144 main_call1.c_37 main_call1.v145 main_call1.v146 main_call1.v147 main_call1.v148 13#32 19#32 (by decide) (by decide) (by decide) (by decide)
  have H := round_holds H main_call1.v149 main_call1.c_38 main_call1.v150 main_call1.v151 main_call1.c_39 main_call1.v152 main_call1.v153 main_call1.v154 main_call1.v155 15#32 17#32 (by decide) (by decide) (by decide) (by decide)
  have H := round_holds H main_call1.v156 main_call1.c_40 main_call1.v157 main_call1.v158 main_call1.c_41 main_call1.v159 main_call1.v160 main_call1.v161 main_call1.v162 26#32 6#32 (by decide) (by decide) (by decide) (by decide)
  have H := round_holds H main_call1.v163 main_call1.c_42 main_call1.v164 main_call1.v165 main_call1.c_43 main_call1.v166 main_call1.v167 main_call1.v168 main_call1.v169 6#32 26#32 (by decide) (by decide) (by decide) (by decide)
  have H := key_holds H main_call1.v1 main_call1.v170 main_call1.v171 (.of main_v18) main_call1.v172 main_call1.v173 main_call1.c_44 main_call1.v174 main_call1.v175 5#32 _ _ H.key2 H.key0 (by decide) (by decide) (by decide)
  rw [groupOps5, after_app, after_app, after_app, after_app]; exact H

/-- The start: the third key word in its buffer, and the counter with the key added. -/
theorem start_holds {k0 k1 : Word} (V : Cont) (h0 : ∀ i, rd (.of main_v18 : One) V i = k0)
    (h1 : ∀ i, rd (.of main_v20 : One) V i = k1) :
    Holds k0 k1 (after startOps V) main_call1.v3 main_call1.v5
      fun j => (rd (.of main_v35 : Arr) V j + k0, rd (.of main_v34 : Arr) V j + k1) := by
  have hW : startOps.map HloOp.writes
      = [main_call1_v0, main_call1_c, main_call1_v1, main_call1_v2, main_call1_v3, main_call1_v4, main_call1_v5].map
        fun w => {Proc.devRef (τ := τ) .tc w} := rfl
  refine ⟨?_, ?_, ?_, ?_, ?_⟩
  · rw [rd_kept _ _ hW _ (by decide)]; exact h0
  · rw [rd_kept _ _ hW _ (by decide)]; exact h1
  all_goals
    intro j
    simp only [startOps, after_cons, after_nil]
    simp (disch := decide) only [rd_binary, rd_unary, rd_nullary, rd_binary_ne, rd_unary_ne, rd_nullary_ne]
  · show (rd (.of main_v18 : One) V j ^^^ rd (.of main_v20 : One) V j) ^^^ 466688986#32 = _
    rw [h0, h1]; rfl
  · show rd (.of main_v35 : Arr) V j + spread (rd (.of main_v18 : One) V) j = _
    rw [spread_apply _ _ h0]
  · show rd (.of main_v34 : Arr) V j + spread (rd (.of main_v20 : One) V) j = _
    rw [spread_apply _ _ h1]

/-- All operations of the hash. -/
def hashOps : List Op := startOps ++ (groupOps1 ++ (groupOps2 ++ (groupOps3 ++ (groupOps4 ++ groupOps5))))

/-- The reference's hash is these operations in a row. -/
theorem hash_eq_seq :
    fn_threefry2x32.body (F := Ideal) (.of main_v18) (.of main_v20) (.of main_v35) (.of main_v34) main_call1
      = seq hashOps := rfl

/-- The hash at an index: the word pair `hash` of the counter there, under the key. -/
theorem hash_holds {k0 k1 : Word} (V : Cont) (h0 : ∀ i, rd (.of main_v18 : One) V i = k0)
    (h1 : ∀ i, rd (.of main_v20 : One) V i = k1) :
    Holds k0 k1 (after hashOps V) main_call1.v171 main_call1.v175
      fun j => hash k0 k1 (rd (.of main_v35 : Arr) V j, rd (.of main_v34 : Arr) V j) := by
  have H := group5_holds (group4_holds (group3_holds (group2_holds (group1_holds (start_holds V h0 h1)))))
  rw [hashOps, after_app, after_app, after_app, after_app, after_app]
  exact H

end Whole

end Cert.Rng.Host
-- ==== Proof.FirstMax.lean ====
/-
  The place of a row's maximum, two ways. A row's first maximal position is found by the reference with a fold over
  pairs (value, position) and by the kernel with the maximum first and then the least position that attains it. Both are
  shown to give the same word, for any row of extended reals.
-/
module

public import Idealize.ShloMosaic.PureOps.Ideal
public import Idealize.ShloMosaic.PureOps.Ideal.Laws
public import proofs.«01_k».proof.Proof.Words

@[expose] public section

namespace Cert.Rng

open Idealize.ShloMosaic

/-- `i` is the first position at which the row `s` is largest. -/
structure FirstMax {n : Nat} (s : Fin n → EReal) (i : Fin n) : Prop where
  le : ∀ k, s k ≤ s i
  first : ∀ k, s k = s i → i ≤ k

/-- A row that is not empty has such a position. -/
theorem exists_firstMax {n : Nat} (hn : 0 < n) (s : Fin n → EReal) : ∃ i, FirstMax s i := by
  haveI : Nonempty (Fin n) := ⟨⟨0, hn⟩⟩
  obtain ⟨m, hm⟩ := Finite.exists_max s
  have hne : (Finset.univ.filter fun k => s k = s m).Nonempty := ⟨m, by simp⟩
  have hmem := Finset.min'_mem _ hne
  simp only [Finset.mem_filter, Finset.mem_univ, true_and] at hmem
  refine ⟨_, fun k => hmem ▸ hm k, fun k hk => Finset.min'_le _ _ ?_⟩
  simpa using hk.trans hmem

/-- The first maximal position of a row of 100000. -/
noncomputable def firstMax (s : Fin 100000 → EReal) : Fin 100000 := (exists_firstMax (by decide) s).choose

/-- It is what its name says. -/
theorem firstMax_spec (s : Fin 100000 → EReal) : FirstMax s (firstMax s) := (exists_firstMax (by decide) s).choose_spec

/-- The signed value of a position's word. -/
theorem toInt_pos (k : Nat) (hk : k < 100000) : (BitVec.ofNat 32 k).toInt = k := by
  rw [BitVec.toInt_ofNat', Int.bmod_eq_of_le] <;> omega

/-! ## The kernel's way -/

/-- The fold of `max` from the bottom is the row's value at its first maximal position. -/
theorem fold_max {s : Fin 100000 → EReal} {i : Fin 100000} (h : FirstMax s i) (b : EReal) (hb : b = ⊥) :
    Finset.univ.fold max b s = s i := by
  subst hb
  refine le_antisymm ((Finset.fold_max_le _).2 ⟨bot_le, fun k _ => h.le k⟩) ((Finset.le_fold_max _).2 (.inr ⟨i, Finset.mem_univ _, le_rfl⟩))

/-- A fold of the signed minimum is one of the words it folds, and at most each of them. -/
theorem fold_minsi {n : Nat} (S : Finset (Fin n)) (b : Word) (f : Fin n → Word) :
    (S.fold IntOp.minsi b f = b ∨ ∃ k ∈ S, S.fold IntOp.minsi b f = f k)
      ∧ ∀ k ∈ S, (S.fold IntOp.minsi b f).toInt ≤ (f k).toInt := by
  have step : ∀ x y : Word, (IntOp.minsi x y = x ∨ IntOp.minsi x y = y)
      ∧ (IntOp.minsi x y).toInt ≤ x.toInt ∧ (IntOp.minsi x y).toInt ≤ y.toInt := by
    intro x y
    simp only [IntOp.minsi, BitVec.slt, decide_eq_true_eq]
    split <;> simp <;> omega
  induction S using Finset.induction_on with
  | empty => simp
  | insert a S ha ih =>
    rw [Finset.fold_insert ha]
    obtain ⟨hor, h1, h2⟩ := step (f a) (S.fold IntOp.minsi b f)
    refine ⟨?_, fun k hk => ?_⟩
    · rcases hor with e | e
      · exact .inr ⟨a, Finset.mem_insert_self .., e⟩
      · rw [e]
        exact ih.1.imp_right fun ⟨k, hk, h⟩ => ⟨k, Finset.mem_insert_of_mem hk, h⟩
    · rcases Finset.mem_insert.1 hk with rfl | hk
      · exact h1
      · exact h2.trans (ih.2 k hk)

/-- The least position that attains the maximum, as the kernel folds it, is the first maximal position. -/
theorem fold_minsi_firstMax {s : Fin 100000 → EReal} {i : Fin 100000} (h : FirstMax s i) (f : Fin 100000 → Word)
    (hf : ∀ k, f k = if s k = s i then BitVec.ofNat 32 k else 100000#32) :
    Finset.univ.fold IntOp.minsi 2147483647#32 f = BitVec.ofNat 32 i := by
  obtain ⟨hor, hle⟩ := fold_minsi Finset.univ 2147483647#32 f
  have hi := hle i (Finset.mem_univ _)
  rw [hf i, if_pos rfl, toInt_pos _ i.2] at hi
  have hlt := i.2
  rcases hor with e | ⟨k, -, e⟩
  · rw [e] at hi
    have : (2147483647#32 : Word).toInt = 2147483647 := by decide
    omega
  · rw [e] at hi ⊢
    rw [hf k] at hi ⊢
    split at hi
    · rename_i hk
      rw [toInt_pos _ k.2] at hi
      have := h.first k hk
      have : k = i := le_antisymm (by exact_mod_cast hi) this
      rw [if_pos hk, this]
    · have : (100000#32 : Word).toInt = 100000 := by decide
      omega

/-! ## The reference's way -/

/-- The pair `a` is at least as good as `b`: larger, or as large with a position not after. -/
def Better (a b : EReal × Word) : Prop := b.1 < a.1 ∨ (a.1 = b.1 ∧ a.2.toInt ≤ b.2.toInt)

/-- A pair is as good as itself. -/
theorem Better.refl (a : EReal × Word) : Better a a := .inr ⟨rfl, le_rfl⟩

/-- Being at least as good passes on. -/
theorem Better.trans {a b c : EReal × Word} (h : Better a b) (h' : Better b c) : Better a c := by
  rcases h with h | ⟨h, g⟩ <;> rcases h' with h' | ⟨h', g'⟩
  · exact .inl (h'.trans h)
  · exact .inl (h' ▸ h)
  · exact .inl (h ▸ h')
  · exact .inr ⟨h.trans h', g.trans g'⟩

/-- A fold of a step that always keeps the better of two pairs ends with one of the pairs, at least as good as all. -/
theorem foldl_better (f : EReal × Word → EReal × Word → EReal × Word)
    (hf : ∀ a b, (f a b = a ∨ f a b = b) ∧ Better (f a b) a ∧ Better (f a b) b) (l : List (EReal × Word)) (b : EReal × Word) :
    (l.foldl f b = b ∨ l.foldl f b ∈ l) ∧ Better (l.foldl f b) b ∧ ∀ a ∈ l, Better (l.foldl f b) a := by
  induction l generalizing b with
  | nil => exact ⟨.inl rfl, .refl _, by simp⟩
  | cons a l ih =>
    obtain ⟨hor, hb, hl⟩ := ih (f b a)
    obtain ⟨hor', h1, h2⟩ := hf b a
    rw [List.foldl_cons]
    refine ⟨?_, hb.trans h1, ?_⟩
    · rcases hor with e | e
      · rw [e]; rcases hor' with e' | e'
        · exact .inl e'
        · rw [e']; exact .inr (List.mem_cons_self ..)
      · exact .inr (List.mem_cons_of_mem _ e)
    · intro c hc
      rcases List.mem_cons.1 hc with rfl | hc
      · exact hb.trans h2
      · exact hl c hc

/-- A fold that keeps the better pair, over a list that holds exactly the pairs of a row, ends at the first maximal position. -/
theorem foldl_firstMax (f : EReal × Word → EReal × Word → EReal × Word)
    (hf : ∀ a b, (f a b = a ∨ f a b = b) ∧ Better (f a b) a ∧ Better (f a b) b)
    {s : Fin 100000 → EReal} {i : Fin 100000} (h : FirstMax s i) (l : List (EReal × Word))
    (hl : ∀ a, a ∈ l ↔ ∃ k : Fin 100000, a = (s k, BitVec.ofNat 32 k)) :
    (l.foldl f (⊥, 0#32)).2 = BitVec.ofNat 32 i := by
  obtain ⟨hor, -, hall⟩ := foldl_better f hf l (⊥, 0#32)
  have hi := hall _ ((hl _).2 ⟨i, rfl⟩)
  rcases hor with e | e
  · rw [e] at hi ⊢
    rcases hi with hi | ⟨hi, -⟩
    · exact absurd hi not_lt_bot
    · have h0 : i ≤ ⟨0, by decide⟩ := h.first _ (le_antisymm (h.le _) (by rw [← show (⊥ : EReal) = s i from hi]; exact bot_le))
      have : (i : Nat) = 0 := Nat.le_zero.1 h0
      simp [this]
  · obtain ⟨k, hk⟩ := (hl _).1 e
    rw [hk] at hi ⊢
    rcases hi with hi | ⟨hi, g⟩
    · exact absurd hi (not_lt.2 (h.le k))
    · have hk' := h.first k hi
      simp only [toInt_pos _ k.2, toInt_pos _ i.2] at g
      have : k = i := le_antisymm (by exact_mod_cast g) hk'
      rw [this]

end Cert.Rng
-- ==== Proof.Spec.lean ====
/-
  What both programs compute, over the extended reals: a row's probabilities, the random score of each position, and
  the position that is drawn.
-/
module

public import proofs.«01_k».proof.Proof.FirstMax

@[expose] public section

noncomputable section

namespace Cert.Rng

open Idealize.ShloMosaic

/-- The word of minus infinity is the bottom. -/
theorem ofBits_bottom : Ideal.ofBits .f32 4286578688#32 = ⊥ := by
  simp [Ideal.ofBits, Ideal.ieee]

/-- What a row is divided by: its sum, or one where the sum is zero. -/
def denom (x : Fin 100000 → EReal) : EReal := if ∑ k, x k = 0 then 1 else ∑ k, x k

/-- The probability at position `k` of a row. -/
def prob (x : Fin 100000 → EReal) (k : Fin 100000) : EReal := Ideal.div (x k) (denom x)

/-- The smallest normal f32 number. -/
def tiny : EReal := Ideal.ofBits .f32 0x00800000#32

/-- The noise made of a random word: the word's upper 23 bits as a number in [0, 1), then `-log (-log u)`. -/
def noise (w : Word) : EReal :=
  -Ideal.log (-Ideal.log (max tiny (Ideal.ofBits .f32 (w >>> 9#32 ||| 1065353216#32) - 1 + tiny)))

/-- The random word at row `r`, position `k`. -/
def wordAt (r k : Nat) : Word := word (BitVec.ofNat 32 (r * 100000 + k))

/-- The score of position `k` in row `r`: noise plus log-probability. -/
def score (r : Nat) (x : Fin 100000 → EReal) (k : Fin 100000) : EReal := noise (wordAt r k) + Ideal.log (prob x k)

/-- The position drawn in row `r`: the first with the largest score. -/
def action (r : Nat) (x : Fin 100000 → EReal) : Word := BitVec.ofNat 32 (firstMax (score r x))

end Cert.Rng
-- ==== Proof.HostRun.lean ====
/-
  The reference's run: its host operations in order, cut into the probabilities, the counter, the hash, the score and the
  choice; and what each part leaves in the buffers the next one reads.
-/
module

public import proofs.«01_k».proof.Proof.HostHash
public import proofs.«01_k».proof.Proof.Spec
public import Idealize.ShloMosaic.Lib.Quiescent

@[expose] public section

set_option maxRecDepth 16384

noncomputable section

namespace Cert.Rng.Host

open Idealize.ShloMosaic Idealize.ShloMosaic.StableHlo Idealize.SL.Sem Cert.ReferenceIdeal Cert.ReferenceIdeal.Gen

/-! ## The operations -/

/-- A buffer holding one number. -/
abbrev FOne := TRef sig ⟨S_, .f32⟩
/-- A buffer holding an array of numbers. -/
abbrev FArr := TRef sig ⟨S128x1x100000, .f32⟩
/-- A buffer holding a number per row. -/
abbrev FRow := TRef sig ⟨S128x1, .f32⟩
/-- A buffer holding a number per row, with a unit axis more. -/
abbrev FCol := TRef sig ⟨S128x1x1, .f32⟩
/-- A buffer holding a truth value per row. -/
abbrev BRow := TRef sig ⟨S128x1, .i1⟩
/-- A buffer holding a word per row. -/
abbrev Row := TRef sig ⟨S128x1, .i32⟩
/-- A buffer holding one word, as an array of length one. -/
abbrev One1 := TRef sig ⟨S1, .i32⟩
/-- A buffer holding two words. -/
abbrev Two := TRef sig ⟨S2, .i32⟩
/-- A buffer holding an array of 64-bit words. -/
abbrev LArr := TRef sig ⟨S128x1x100000, .i64⟩
/-- A buffer holding one 64-bit word. -/
abbrev LOne := TRef sig ⟨S_, .i64⟩

/-- The probabilities and their logarithms. -/
def probOps : List Op :=
  [TRef.nullary (.of main_cst : FOne) (constant (F := Ideal) S_ .f32 0x3F800000#32),
   TRef.unary (.of main_cst : FOne) (.of main_v0 : FArr) (broadcastInDim S128x1x100000 ![] Facts₀.bcast_S_S128x1x100000),
   TRef.binary (.of main_arg0 : FArr) (.of main_v0 : FArr) (.of main_v1 : FArr) (mulf (F := Ideal) (s := S128x1x100000)
     (φ := .f32)),
   TRef.nullary (.of main_cst_0 : FOne) (constant (F := Ideal) S_ .f32 0x00000000#32),
   TRef.binary (.of main_v1 : FArr) (.of main_cst_0 : FOne) (.of main_v2 : FRow) (fun x v => Host.reduceAdd (F := Ideal)
     (φ := .f32) x v Facts₀.reducesTo_S128x1x100000_S128x1_d2 Facts₀.h_S_),
   TRef.nullary (.of main_cst_1 : FOne) (constant (F := Ideal) S_ .f32 0x00000000#32),
   TRef.unary (.of main_cst_1 : FOne) (.of main_v3 : FRow) (broadcastInDim S128x1 ![] Facts₀.bcast_S_S128x1),
   TRef.binary (.of main_v2 : FRow) (.of main_v3 : FRow) (.of main_v4 : BRow) (cmpf (F := Ideal) (φ := .f32) .oeq),
   TRef.nullary (.of main_cst_2 : FOne) (constant (F := Ideal) S_ .f32 0x3F800000#32),
   TRef.unary (.of main_cst_2 : FOne) (.of main_call0_v0 : FOne) id,
   TRef.unary (.of main_call0_v0 : FOne) (.of main_call0_v1 : FRow) (broadcastInDim S128x1 ![] Facts₀.bcast_S_S128x1),
   TRef.ternary (.of main_v4 : BRow) (.of main_call0_v1 : FRow) (.of main_v2 : FRow) (.of main_v5 : FRow) select,
   TRef.unary (.of main_v5 : FRow) (.of main_v6 : FCol) (broadcastInDim S128x1x1 ![0, 2] Facts₀.bcast_S128x1_S128x1x1_0_2),
   TRef.unary (.of main_v6 : FCol) (.of main_v7 : FArr)
     (broadcastInDim S128x1x100000 ![0, 1, 2] Facts₀.bcast_S128x1x1_S128x1x100000_0_1_2),
   TRef.binary (.of main_v1 : FArr) (.of main_v7 : FArr) (.of main_v8 : FArr) (Host.divf (F := Ideal)
     (s := S128x1x100000) (φ := .f32)),
   TRef.unary (.of main_v8 : FArr) (.of main_v9 : FArr) (Host.log (F := Ideal) (s := S128x1x100000) (φ := .f32))]

/-- The key, and the counter: the flat position as a 64-bit number, cut into two words. -/
def counterOps : List Op :=
  [TRef.nullary (.of main_c : One) (constantI S_ 32 42#32),
   TRef.nullary (.of main_c_3 : One) (constantI S_ 32 32#32),
   TRef.binary (.of main_c : One) (.of main_c_3 : One) (.of main_v10 : One) Host.shrui,
   TRef.unary (.of main_v10 : One) (.of main_v11 : One) id,
   TRef.unary (.of main_v11 : One) (.of main_v12 : One1) (broadcastInDim S1 ![] Facts₀.bcast_S_S1),
   TRef.nullary (.of main_c_4 : One) (constantI S_ 32 4294967295#32),
   TRef.binary (.of main_c : One) (.of main_c_4 : One) (.of main_v13 : One) andi,
   TRef.unary (.of main_v13 : One) (.of main_v14 : One) id,
   TRef.unary (.of main_v14 : One) (.of main_v15 : One1) (broadcastInDim S1 ![] Facts₀.bcast_S_S1),
   TRef.binary (.of main_v12 : One1) (.of main_v15 : One1) (.of main_v16 : Two)
     (fun a b => concatenate S2 0 [⟨S1, a⟩, ⟨S1, b⟩] Facts₀.concatenates_S1_S1_S2_d0),
   TRef.unary (.of main_v16 : Two) (.of main_v17 : One1) (extractStridedSlice S1 ![0] · Facts₀.slices_S2_S1_0),
   TRef.reshape (.of main_v17 : One1) (.of main_v18 : One) rfl Facts₀.shapeCasts_S1_S_,
   TRef.unary (.of main_v16 : Two) (.of main_v19 : One1) (extractStridedSlice S1 ![1] · Facts₀.slices_S2_S1_1),
   TRef.reshape (.of main_v19 : One1) (.of main_v20 : One) rfl Facts₀.shapeCasts_S1_S_,
   TRef.nullary (.of main_v21 : LArr) (iotaInDim S128x1x100000 64 0),
   TRef.nullary (.of main_v22 : LArr) (iotaInDim S128x1x100000 64 1),
   TRef.nullary (.of main_v23 : LArr) (iotaInDim S128x1x100000 64 2),
   TRef.nullary (.of main_c_5 : LOne) (constantI S_ 64 100000#64),
   TRef.unary (.of main_c_5 : LOne) (.of main_v24 : LArr) (broadcastInDim S128x1x100000 ![] Facts₀.bcast_S_S128x1x100000),
   TRef.binary (.of main_v24 : LArr) (.of main_v21 : LArr) (.of main_v25 : LArr) muli,
   TRef.nullary (.of main_c_6 : LOne) (constantI S_ 64 100000#64),
   TRef.unary (.of main_c_6 : LOne) (.of main_v26 : LArr) (broadcastInDim S128x1x100000 ![] Facts₀.bcast_S_S128x1x100000),
   TRef.binary (.of main_v26 : LArr) (.of main_v22 : LArr) (.of main_v27 : LArr) muli,
   TRef.nullary (.of main_c_7 : LOne) (constantI S_ 64 1#64),
   TRef.unary (.of main_c_7 : LOne) (.of main_v28 : LArr) (broadcastInDim S128x1x100000 ![] Facts₀.bcast_S_S128x1x100000),
   TRef.binary (.of main_v28 : LArr) (.of main_v23 : LArr) (.of main_v29 : LArr) muli,
   TRef.binary (.of main_v25 : LArr) (.of main_v27 : LArr) (.of main_v30 : LArr) addi,
   TRef.binary (.of main_v30 : LArr) (.of main_v29 : LArr) (.of main_v31 : LArr) addi,
   TRef.nullary (.of main_c_8 : LOne) (constantI S_ 64 32#64),
   TRef.unary (.of main_c_8 : LOne) (.of main_v32 : LArr) (broadcastInDim S128x1x100000 ![] Facts₀.bcast_S_S128x1x100000),
   TRef.binary (.of main_v31 : LArr) (.of main_v32 : LArr) (.of main_v33 : LArr) Host.shrui,
   TRef.unary (.of main_v31 : LArr) (.of main_v34 : Arr) (trunci 32 · Facts₀.natLt_32_64),
   TRef.unary (.of main_v33 : LArr) (.of main_v35 : Arr) (trunci 32 · Facts₀.natLt_32_64)]

/-- The noise made of the hash, and the score. -/
def scoreOps : List Op :=
  [TRef.binary (.of main_v36_0 : Arr) (.of main_v36_1 : Arr) (.of main_v37 : Arr) xori,
   TRef.nullary (.of main_c_9 : One) (constantI S_ 32 9#32),
   TRef.unary (.of main_c_9 : One) (.of main_v38 : Arr) (broadcastInDim S128x1x100000 ![] Facts₀.bcast_S_S128x1x100000),
   TRef.binary (.of main_v37 : Arr) (.of main_v38 : Arr) (.of main_v39 : Arr) Host.shrui,
   TRef.nullary (.of main_c_10 : One) (constantI S_ 32 1065353216#32),
   TRef.unary (.of main_c_10 : One) (.of main_v40 : Arr) (broadcastInDim S128x1x100000 ![] Facts₀.bcast_S_S128x1x100000),
   TRef.binary (.of main_v39 : Arr) (.of main_v40 : Arr) (.of main_v41 : Arr) ori,
   TRef.unary (.of main_v41 : Arr) (.of main_v42 : FArr) (bitcastToFloat (F := Ideal) .f32),
   TRef.nullary (.of main_cst_11 : FOne) (constant (F := Ideal) S_ .f32 0x3F800000#32),
   TRef.unary (.of main_cst_11 : FOne) (.of main_v43 : FArr) (broadcastInDim S128x1x100000 ![] Facts₀.bcast_S_S128x1x100000),
   TRef.binary (.of main_v42 : FArr) (.of main_v43 : FArr) (.of main_v44 : FArr) (subf (F := Ideal) (s := S128x1x100000)
     (φ := .f32)),
   TRef.nullary (.of main_cst_12 : FOne) (constant (F := Ideal) S_ .f32 0x3F800000#32),
   TRef.unary (.of main_cst_12 : FOne) (.of main_v45 : FArr) (broadcastInDim S128x1x100000 ![] Facts₀.bcast_S_S128x1x100000),
   TRef.binary (.of main_v44 : FArr) (.of main_v45 : FArr) (.of main_v46 : FArr) (mulf (F := Ideal) (s := S128x1x100000)
     (φ := .f32)),
   TRef.nullary (.of main_cst_13 : FOne) (constant (F := Ideal) S_ .f32 0x00800000#32),
   TRef.unary (.of main_cst_13 : FOne) (.of main_v47 : FArr) (broadcastInDim S128x1x100000 ![] Facts₀.bcast_S_S128x1x100000),
   TRef.binary (.of main_v46 : FArr) (.of main_v47 : FArr) (.of main_v48 : FArr) (addf (F := Ideal) (s := S128x1x100000)
     (φ := .f32)),
   TRef.nullary (.of main_cst_14 : FOne) (constant (F := Ideal) S_ .f32 0x00800000#32),
   TRef.unary (.of main_cst_14 : FOne) (.of main_v49 : FArr) (broadcastInDim S128x1x100000 ![] Facts₀.bcast_S_S128x1x100000),
   TRef.binary (.of main_v49 : FArr) (.of main_v48 : FArr) (.of main_v50 : FArr) (maximumf (F := Ideal)
     (s := S128x1x100000) (φ := .f32)),
   TRef.unary (.of main_v50 : FArr) (.of main_v51 : FArr) (Host.log (F := Ideal) (s := S128x1x100000) (φ := .f32)),
   TRef.unary (.of main_v51 : FArr) (.of main_v52 : FArr) (Host.negf (F := Ideal) (s := S128x1x100000) (φ := .f32)),
   TRef.unary (.of main_v52 : FArr) (.of main_v53 : FArr) (Host.log (F := Ideal) (s := S128x1x100000) (φ := .f32)),
   TRef.unary (.of main_v53 : FArr) (.of main_v54 : FArr) (Host.negf (F := Ideal) (s := S128x1x100000) (φ := .f32)),
   TRef.binary (.of main_v54 : FArr) (.of main_v9 : FArr) (.of main_v55 : FArr) (addf (F := Ideal) (s := S128x1x100000)
     (φ := .f32))]

/-- The position of the largest score. -/
def choiceOps : List Op :=
  [TRef.nullary (.of main_call2_v0 : Arr) (iotaInDim S128x1x100000 32 2),
   TRef.nullary (.of main_call2_cst : FOne) (constant (F := Ideal) S_ .f32 0xFF800000#32),
   TRef.nullary (.of main_call2_c : One) (constantI S_ 32 0#32),
   TRef.quaternary (.of main_v55 : FArr) (.of main_call2_v0 : Arr) (.of main_call2_cst : FOne) (.of main_call2_c : One)
     (.of main_call2_v1_0 : FRow)
     fun x y u v j => (Host.argReduce (F := Ideal) (s := S128x1x100000) (u := S_) (φ := .f32) reducer_argmax_f32_i32 x y u v Facts₀.reducesTo_S128x1x100000_S128x1_d2 Facts₀.h_S_ j).1,
   TRef.quaternary (.of main_v55 : FArr) (.of main_call2_v0 : Arr) (.of main_call2_cst : FOne) (.of main_call2_c : One)
     (.of main_v56 : Row)
     fun x y u v j => (Host.argReduce (F := Ideal) (s := S128x1x100000) (u := S_) (φ := .f32) reducer_argmax_f32_i32 x y u v Facts₀.reducesTo_S128x1x100000_S128x1_d2 Facts₀.h_S_ j).2]

/-- All operations of the reference. -/
def allOps : List Op := probOps ++ (counterOps ++ (hashOps ++ (scoreOps ++ choiceOps)))

/-- The reference is these operations in a row. -/
theorem main_eq (d : Dev nD) : main (F := Ideal) d = seq allOps := rfl

/-- The buffers `probOps` write. -/
abbrev probRefs : List (Ref sig .tc) :=
  [main_cst, main_v0, main_v1, main_cst_0, main_v2, main_cst_1, main_v3, main_v4, main_cst_2, main_call0_v0,
   main_call0_v1, main_v5, main_v6, main_v7, main_v8, main_v9]

/-- So their list says. -/
theorem probOps_writes : probOps.map HloOp.writes = probRefs.map fun w => {Proc.devRef (τ := τ) .tc w} := rfl

/-- The buffers `counterOps` write. -/
abbrev counterRefs : List (Ref sig .tc) :=
  [main_c, main_c_3, main_v10, main_v11, main_v12, main_c_4, main_v13, main_v14, main_v15, main_v16, main_v17,
   main_v18, main_v19, main_v20, main_v21, main_v22, main_v23, main_c_5, main_v24, main_v25, main_c_6, main_v26,
   main_v27, main_c_7, main_v28, main_v29, main_v30, main_v31, main_c_8, main_v32, main_v33, main_v34, main_v35]

/-- So their list says. -/
theorem counterOps_writes : counterOps.map HloOp.writes = counterRefs.map fun w => {Proc.devRef (τ := τ) .tc w} := rfl

/-- The buffers `scoreOps` write. -/
abbrev scoreRefs : List (Ref sig .tc) :=
  [main_v37, main_c_9, main_v38, main_v39, main_c_10, main_v40, main_v41, main_v42, main_cst_11, main_v43, main_v44,
   main_cst_12, main_v45, main_v46, main_cst_13, main_v47, main_v48, main_cst_14, main_v49, main_v50, main_v51,
   main_v52, main_v53, main_v54, main_v55]

/-- So their list says. -/
theorem scoreOps_writes : scoreOps.map HloOp.writes = scoreRefs.map fun w => {Proc.devRef (τ := τ) .tc w} := rfl

/-- The buffers `choiceOps` write. -/
abbrev choiceRefs : List (Ref sig .tc) :=
  [main_call2_v0, main_call2_cst, main_call2_c, main_call2_v1_0, main_v56]

/-- So their list says. -/
theorem choiceOps_writes : choiceOps.map HloOp.writes = choiceRefs.map fun w => {Proc.devRef (τ := τ) .tc w} := rfl

/-! ## What each part leaves -/

/-- The probabilities, at row `r` and position `k`. -/
theorem prob_at (V : Cont) (r : Fin 128) (k : Fin 100000) :
    rd (.of main_v8 : FArr) (after probOps V) (ix3 r 0 k)
      = prob (fun k => rd (.of main_arg0 : FArr) V (ix3 r 0 k)) k := by
  simp only [probOps, after_cons, after_nil]
  simp (disch := decide) only [rd_binary, rd_unary, rd_nullary, rd_ternary, rd_binary_ne, rd_unary_ne, rd_nullary_ne, rd_ternary_ne]
  generalize rd (.of main_arg0 : FArr) V = x
  pointwise
  simp only [prob, denom, id]
  rw [show (constant (F := Ideal) S_ .f32 1065353216#32) ix0 = (1 : EReal) from Ideal.ofBits_one_f32]

/-- The host's logarithm, read at an index. -/
theorem hostLog_apply (v : FVec Ideal S128x1x100000 .f32) (j : S128x1x100000.Idx) : Host.log v j = Ideal.log (v j) := rfl

/-- Their logarithms. -/
theorem logProb_at (V : Cont) (j : S128x1x100000.Idx) :
    rd (.of main_v9 : FArr) (after probOps V) j = Ideal.log (rd (.of main_v8 : FArr) (after probOps V) j) := by
  simp only [probOps, after_cons, after_nil]
  simp (disch := decide) only [rd_binary, rd_unary, rd_nullary, rd_ternary, rd_binary_ne, rd_unary_ne, rd_nullary_ne, rd_ternary_ne]
  exact hostLog_apply _ _

/-- The flat position, as the reference computes it in 64 bits. -/
theorem flat64 (r : Fin 128) (k : Fin 100000) :
    IntOp.addi (IntOp.addi (IntOp.muli 100000#64 (BitVec.ofNat 64 r)) (IntOp.muli 100000#64 0#64)) (IntOp.muli 1#64 (BitVec.ofNat 64 k))
      = BitVec.ofNat 64 (r * 100000 + k) := by
  have hr := r.2
  have hk := k.2
  apply BitVec.eq_of_toNat_eq
  simp only [IntOp.addi, IntOp.muli, BitVec.toNat_add, BitVec.toNat_mul, BitVec.toNat_ofNat]
  omega

/-- The counter's low word is the flat position. -/
theorem low_at (V : Cont) (r : Fin 128) (k : Fin 100000) :
    rd (.of main_v34 : Arr) (after counterOps V) (ix3 r 0 k) = BitVec.ofNat 32 (r * 100000 + k) := by
  simp only [counterOps, after_cons, after_nil]
  simp (disch := decide) only [rd_binary, rd_unary, rd_nullary, rd_reshape, rd_binary_ne, rd_unary_ne, rd_nullary_ne, rd_reshape_ne]
  pointwise
  rw [flat64]
  apply BitVec.eq_of_toNat_eq
  simp only [BitVec.toNat_setWidth, BitVec.toNat_ofNat]
  omega

/-- The counter's high word is zero: every flat position is below `2 ^ 32`. -/
theorem high_at (V : Cont) (r : Fin 128) (k : Fin 100000) :
    rd (.of main_v35 : Arr) (after counterOps V) (ix3 r 0 k) = 0#32 := by
  simp only [counterOps, after_cons, after_nil]
  simp (disch := decide) only [rd_binary, rd_unary, rd_nullary, rd_reshape, rd_binary_ne, rd_unary_ne, rd_nullary_ne, rd_reshape_ne]
  pointwise
  rw [flat64, IntOp.shrui, if_pos (by decide)]
  have hr := r.2
  have hk := k.2
  have hlt : (r * 100000 + k : Nat) / 4294967296 = 0 := Nat.div_eq_of_lt (by omega)
  apply BitVec.eq_of_toNat_eq
  rw [BitVec.toNat_setWidth, BitVec.ushiftRight_eq', BitVec.toNat_ushiftRight, BitVec.toNat_ofNat, Nat.shiftRight_eq_div_pow,
    Nat.mod_eq_of_lt (a := (r * 100000 + k : Nat)) (by omega)]
  show (r * 100000 + k : Nat) / 4294967296 % 2 ^ 32 = 0
  rw [hlt]

/-- The key's first word is zero. -/
theorem key0_at (V : Cont) (i : S_.Idx) : rd (.of main_v18 : One) (after counterOps V) i = 0#32 := by
  simp only [counterOps, after_cons, after_nil]
  simp (disch := decide) only [rd_binary, rd_unary, rd_nullary, rd_reshape, rd_binary_ne, rd_unary_ne, rd_nullary_ne, rd_reshape_ne]
  pointwise
  simp (disch := decide) only [rd_binary, rd_unary, rd_nullary, rd_reshape, rd_binary_ne, rd_unary_ne, rd_nullary_ne, rd_reshape_ne]
  pointwise
  rfl

/-- The key's second word is 42. -/
theorem key1_at (V : Cont) (i : S_.Idx) : rd (.of main_v20 : One) (after counterOps V) i = 42#32 := by
  simp only [counterOps, after_cons, after_nil]
  simp (disch := decide) only [rd_binary, rd_unary, rd_nullary, rd_reshape, rd_binary_ne, rd_unary_ne, rd_nullary_ne, rd_reshape_ne]
  pointwise
  simp (disch := decide) only [rd_binary, rd_unary, rd_nullary, rd_reshape, rd_binary_ne, rd_unary_ne, rd_nullary_ne, rd_reshape_ne]
  pointwise
  rfl

/-- The score: noise made of the two hash words combined, plus what the logarithm's buffer holds. -/
theorem score_at (V : Cont) (j : S128x1x100000.Idx) : rd (.of main_v55 : FArr) (after scoreOps V) j
    = noise (rd (.of main_v36_0 : Arr) V j ^^^ rd (.of main_v36_1 : Arr) V j) + rd (.of main_v9 : FArr) V j := by
  simp only [scoreOps, after_cons, after_nil]
  simp (disch := decide) only [rd_binary, rd_unary, rd_nullary, rd_reshape, rd_binary_ne, rd_unary_ne, rd_nullary_ne, rd_reshape_ne]
  pointwise
  rw [IntOp.shrui, if_pos (by decide)]
  rfl

/-- The reference's choice between two pairs keeps the better one. -/
theorem reducer_better (a b : EReal × Word) :
    (reducer_argmax_f32_i32 (F := Ideal) a b = a ∨ reducer_argmax_f32_i32 (F := Ideal) a b = b)
      ∧ Better (reducer_argmax_f32_i32 (F := Ideal) a b) a ∧ Better (reducer_argmax_f32_i32 (F := Ideal) a b) b := by
  obtain ⟨x, m⟩ := a
  obtain ⟨y, n⟩ := b
  simp only [reducer_argmax_f32_i32, Better, Scalar.select, Ideal.cmpf_def, Ideal.cmp, IntOp.ori, IntOp.andi, IntOp.cmpi, BitVec.slt]
  rcases lt_trichotomy x y with h | rfl | h
  · simp [h, h.not_gt, h.ne]
  · by_cases hm : m.toInt < n.toInt <;> simp [hm] <;> omega
  · simp [h, h.ne']

/-- An index whose reduction is row `r` is `(r, 0, k)` for some `k`. -/
theorem eq_of_drop (i : S128x1x100000.Idx) (r : Fin 128)
    (h : Shape.ReducesTo.drop (s := S128x1x100000) (t := S128x1) Facts₀.reducesTo_S128x1x100000_S128x1_d2 i = ix2 r 0) :
    ∃ k : Fin 100000, i = ix3 r 0 k := by
  have h0 := congrArg Fin.val (congrFun h 0)
  rw [Shape.ReducesTo.drop_apply_val_of_eq _ i 0 0] at h0
  refine ⟨i 2, ?_⟩
  rw [eq_ix3 i]
  have h1 : i 1 = (0 : Fin 1) := Subsingleton.elim (α := Fin 1) _ _
  have h0' : i 0 = r := Fin.ext h0
  rw [h0', h1]
  rfl

/-- The indices that reduce to row `r` are the `(r, 0, k)`. -/
theorem drop_row (r : Fin 128) (k : Fin 100000) :
    Shape.ReducesTo.drop (s := S128x1x100000) (t := S128x1) Facts₀.reducesTo_S128x1x100000_S128x1_d2 (ix3 r 0 k) = ix2 r 0 := by
  funext b
  apply Fin.ext
  fin_cases b
  · exact Shape.ReducesTo.drop_apply_val_of_eq _ (ix3 r 0 k) 0 0
  · exact Shape.ReducesTo.drop_apply_val_of_eq _ (ix3 r 0 k) 1 1

/-- The choice: the first position with the largest score. -/
theorem choice_at (V : Cont) (r : Fin 128) : rd (.of main_v56 : Row) (after choiceOps V) (ix2 r 0)
    = BitVec.ofNat 32 (firstMax fun k => rd (.of main_v55 : FArr) V (ix3 r 0 k)) := by
  simp only [choiceOps, after_cons, after_nil]
  simp (disch := decide) only [rd_quaternary, rd_nullary, rd_quaternary_ne, rd_nullary_ne]
  generalize rd (.of main_v55 : FArr) V = s
  rw [Ideal.argReduce_eq_reduce2, Host.reduce2_eq_foldl_fiber]
  have hb : (constant (F := Ideal) S_ .f32 4286578688#32) (Shape.Idx.first Facts₀.h_S_) = (⊥ : EReal) := by
    pointwise
    exact ofBits_bottom
  rw [hb]
  refine foldl_firstMax _ reducer_better (firstMax_spec _) _ fun a => ?_
  simp only [Host.argReduceFiber, List.mem_map, List.mem_filter, List.mem_finRange, true_and, decide_eq_true_eq]
  constructor
  · rintro ⟨n, hn, rfl⟩
    obtain ⟨k, hk⟩ := eq_of_drop _ r hn
    exact ⟨k, by rw [hk]; rfl⟩
  · rintro ⟨k, rfl⟩
    refine ⟨S128x1x100000.rowMajor (ix3 r 0 k), ?_, ?_⟩
    · rw [Equiv.symm_apply_apply]; exact drop_row r k
    · rw [Equiv.symm_apply_apply]; rfl

end Cert.Rng.Host
-- ==== Proof.HostEnd.lean ====
/-
  The reference's run: what the hash leaves alone, the two results and the argument after all operations, and the run itself.
-/
module

public import proofs.«01_k».proof.Proof.HostRun

@[expose] public section

set_option maxRecDepth 16384

noncomputable section

namespace Cert.Rng.Host

open Idealize.ShloMosaic Idealize.ShloMosaic.StableHlo Idealize.SL.Sem Cert.ReferenceIdeal Cert.ReferenceIdeal.Gen

/-! ## What the hash writes -/

/-- The buffers `startOps` write. -/
abbrev startRefs : List (Ref sig .tc) :=
  [main_call1_v0, main_call1_c, main_call1_v1, main_call1_v2, main_call1_v3, main_call1_v4, main_call1_v5]

/-- So their list says. -/
theorem startOps_writes : startOps.map HloOp.writes = startRefs.map fun w => {Proc.devRef (τ := τ) .tc w} := rfl

/-- The buffers `groupOps1` write. -/
abbrev groupRefs1 : List (Ref sig .tc) :=
  roundRefs main_call1.v6 main_call1.c_0 main_call1.v7 main_call1.v8 main_call1.c_1 main_call1.v9 main_call1.v10 main_call1.v11 main_call1.v12
    ++ roundRefs main_call1.v13 main_call1.c_2 main_call1.v14 main_call1.v15 main_call1.c_3 main_call1.v16 main_call1.v17 main_call1.v18 main_call1.v19
    ++ roundRefs main_call1.v20 main_call1.c_4 main_call1.v21 main_call1.v22 main_call1.c_5 main_call1.v23 main_call1.v24 main_call1.v25 main_call1.v26
    ++ roundRefs main_call1.v27 main_call1.c_6 main_call1.v28 main_call1.v29 main_call1.c_7 main_call1.v30 main_call1.v31 main_call1.v32 main_call1.v33
    ++ keyRefs main_call1.v34 main_call1.v35 main_call1.v36 main_call1.v37 main_call1.c_8 main_call1.v38 main_call1.v39

/-- So their list says. -/
theorem groupOps1_writes : groupOps1.map HloOp.writes = groupRefs1.map fun w => {Proc.devRef (τ := τ) .tc w} := rfl

/-- The buffers `groupOps2` write. -/
abbrev groupRefs2 : List (Ref sig .tc) :=
  roundRefs main_call1.v40 main_call1.c_9 main_call1.v41 main_call1.v42 main_call1.c_10 main_call1.v43 main_call1.v44 main_call1.v45 main_call1.v46
    ++ roundRefs main_call1.v47 main_call1.c_11 main_call1.v48 main_call1.v49 main_call1.c_12 main_call1.v50 main_call1.v51 main_call1.v52 main_call1.v53
    ++ roundRefs main_call1.v54 main_call1.c_13 main_call1.v55 main_call1.v56 main_call1.c_14 main_call1.v57 main_call1.v58 main_call1.v59 main_call1.v60
    ++ roundRefs main_call1.v61 main_call1.c_15 main_call1.v62 main_call1.v63 main_call1.c_16 main_call1.v64 main_call1.v65 main_call1.v66 main_call1.v67
    ++ keyRefs main_call1.v68 main_call1.v69 main_call1.v70 main_call1.v71 main_call1.c_17 main_call1.v72 main_call1.v73

/-- So their list says. -/
theorem groupOps2_writes : groupOps2.map HloOp.writes = groupRefs2.map fun w => {Proc.devRef (τ := τ) .tc w} := rfl

/-- The buffers `groupOps3` write. -/
abbrev groupRefs3 : List (Ref sig .tc) :=
  roundRefs main_call1.v74 main_call1.c_18 main_call1.v75 main_call1.v76 main_call1.c_19 main_call1.v77 main_call1.v78 main_call1.v79 main_call1.v80
    ++ roundRefs main_call1.v81 main_call1.c_20 main_call1.v82 main_call1.v83 main_call1.c_21 main_call1.v84 main_call1.v85 main_call1.v86 main_call1.v87
    ++ roundRefs main_call1.v88 main_call1.c_22 main_call1.v89 main_call1.v90 main_call1.c_23 main_call1.v91 main_call1.v92 main_call1.v93 main_call1.v94
    ++ roundRefs main_call1.v95 main_call1.c_24 main_call1.v96 main_call1.v97 main_call1.c_25 main_call1.v98 main_call1.v99 main_call1.v100 main_call1.v101
    ++ keyRefs main_call1.v102 main_call1.v103 main_call1.v104 main_call1.v105 main_call1.c_26 main_call1.v106 main_call1.v107

/-- So their list says. -/
theorem groupOps3_writes : groupOps3.map HloOp.writes = groupRefs3.map fun w => {Proc.devRef (τ := τ) .tc w} := rfl

/-- The buffers `groupOps4` write. -/
abbrev groupRefs4 : List (Ref sig .tc) :=
  roundRefs main_call1.v108 main_call1.c_27 main_call1.v109 main_call1.v110 main_call1.c_28 main_call1.v111 main_call1.v112 main_call1.v113 main_call1.v114
    ++ roundRefs main_call1.v115 main_call1.c_29 main_call1.v116 main_call1.v117 main_call1.c_30 main_call1.v118 main_call1.v119 main_call1.v120 main_call1.v121
    ++ roundRefs main_call1.v122 main_call1.c_31 main_call1.v123 main_call1.v124 main_call1.c_32 main_call1.v125 main_call1.v126 main_call1.v127 main_call1.v128
    ++ roundRefs main_call1.v129 main_call1.c_33 main_call1.v130 main_call1.v131 main_call1.c_34 main_call1.v132 main_call1.v133 main_call1.v134 main_call1.v135
    ++ keyRefs main_call1.v136 main_call1.v137 main_call1.v138 main_call1.v139 main_call1.c_35 main_call1.v140 main_call1.v141

/-- So their list says. -/
theorem groupOps4_writes : groupOps4.map HloOp.writes = groupRefs4.map fun w => {Proc.devRef (τ := τ) .tc w} := rfl

/-- The buffers `groupOps5` write. -/
abbrev groupRefs5 : List (Ref sig .tc) :=
  roundRefs main_call1.v142 main_call1.c_36 main_call1.v143 main_call1.v144 main_call1.c_37 main_call1.v145 main_call1.v146 main_call1.v147 main_call1.v148
    ++ roundRefs main_call1.v149 main_call1.c_38 main_call1.v150 main_call1.v151 main_call1.c_39 main_call1.v152 main_call1.v153 main_call1.v154 main_call1.v155
    ++ roundRefs main_call1.v156 main_call1.c_40 main_call1.v157 main_call1.v158 main_call1.c_41 main_call1.v159 main_call1.v160 main_call1.v161 main_call1.v162
    ++ roundRefs main_call1.v163 main_call1.c_42 main_call1.v164 main_call1.v165 main_call1.c_43 main_call1.v166 main_call1.v167 main_call1.v168 main_call1.v169
    ++ keyRefs main_call1.v170 main_call1.v171 main_call1.v172 main_call1.v173 main_call1.c_44 main_call1.v174 main_call1.v175

/-- So their list says. -/
theorem groupOps5_writes : groupOps5.map HloOp.writes = groupRefs5.map fun w => {Proc.devRef (τ := τ) .tc w} := rfl

/-- A buffer the hash does not write is as it was. -/
theorem rd_hash {T : BufTy} (r : TRef sig T) (h0 : r.ref ∉ startRefs) (h1 : r.ref ∉ groupRefs1) (h2 : r.ref ∉ groupRefs2)
    (h3 : r.ref ∉ groupRefs3) (h4 : r.ref ∉ groupRefs4) (h5 : r.ref ∉ groupRefs5) (V : Cont) :
    rd r (after hashOps V) = rd r V := by
  simp only [hashOps, after_app]
  rw [rd_kept _ _ groupOps5_writes _ h5, rd_kept _ _ groupOps4_writes _ h4, rd_kept _ _ groupOps3_writes _ h3,
    rd_kept _ _ groupOps2_writes _ h2, rd_kept _ _ groupOps1_writes _ h1, rd_kept _ _ startOps_writes _ h0]

/-! ## After all operations -/

/-- The argument's row `r`. -/
abbrev row (x : (⟨S128x1x100000, .f32⟩ : BufTy).Contents (Elt Ideal)) (r : Fin 128) (k : Fin 100000) : EReal := x (ix3 r 0 k)

/-- The argument is as it was. -/
theorem arg_end (V : Cont) : rd (.of main_arg0 : FArr) (after allOps V) = rd (.of main_arg0 : FArr) V := by
  simp only [allOps, after_app]
  rw [rd_kept _ _ choiceOps_writes _ (by decide), rd_kept _ _ scoreOps_writes _ (by decide), rd_hash _ (by decide) (by decide) (by decide) (by decide) (by decide) (by decide),
    rd_kept _ _ counterOps_writes _ (by decide), rd_kept _ _ probOps_writes _ (by decide)]

/-- The first result: the probabilities of each row. -/
theorem prob_end (V : Cont) (r : Fin 128) (k : Fin 100000) :
    rd (.of main_v8 : FArr) (after allOps V) (ix3 r 0 k) = prob (row (rd (.of main_arg0 : FArr) V) r) k := by
  simp only [allOps, after_app]
  rw [rd_kept _ _ choiceOps_writes _ (by decide), rd_kept _ _ scoreOps_writes _ (by decide), rd_hash _ (by decide) (by decide) (by decide) (by decide) (by decide) (by decide),
    rd_kept _ _ counterOps_writes _ (by decide), prob_at]

/-- The second result: the position drawn in each row. -/
theorem action_end (V : Cont) (r : Fin 128) :
    rd (.of main_v56 : Row) (after allOps V) (ix2 r 0) = action r (row (rd (.of main_arg0 : FArr) V) r) := by
  simp only [allOps, after_app]
  rw [choice_at, action]
  refine congrArg (fun s => BitVec.ofNat 32 (firstMax s)) (funext fun k => ?_)
  have H := hash_holds (after counterOps (after probOps V)) (key0_at _) (key1_at _)
  rw [score_at, score, wordAt, word]
  have h0 : rd (.of main_v36_0 : Arr) (after hashOps (after counterOps (after probOps V))) (ix3 r 0 k) = _ := H.fst _
  have h1 : rd (.of main_v36_1 : Arr) (after hashOps (after counterOps (after probOps V))) (ix3 r 0 k) = _ := H.snd _
  rw [h0, h1, high_at, low_at, rd_hash _ (by decide) (by decide) (by decide) (by decide) (by decide) (by decide), rd_kept _ _ counterOps_writes _ (by decide), logProb_at, prob_at]

/-! ## The run -/

/-- Every operation of the list touches buffers of the one core only. -/
abbrev Local (ops : List Op) : Prop := ops.Forall fun op => op.bufs ⊆ tcRefs τ sig

/-- A round does. -/
theorem roundOps_local (x y s : Arr) (c0 : One) (b0 l : Arr) (c1 : One) (b1 h o z : Arr) (r t : Word) :
    Local (roundOps x y s c0 b0 l c1 b1 h o z r t) :=
  ⟨binary_bufs_sub .., nullary_bufs_sub .., unary_bufs_sub .., binary_bufs_sub .., nullary_bufs_sub .., unary_bufs_sub ..,
    binary_bufs_sub .., binary_bufs_sub .., binary_bufs_sub ..⟩

/-- A key addition does. -/
theorem keyOps_local (x y : Arr) (a : One) (b1 x' : Arr) (b : One) (b2 t : Arr) (c : One) (b3 y' : Arr) (n : Word) :
    Local (keyOps x y a b1 x' b b2 t c b3 y' n) :=
  ⟨unary_bufs_sub .., binary_bufs_sub .., unary_bufs_sub .., binary_bufs_sub .., nullary_bufs_sub .., unary_bufs_sub ..,
    binary_bufs_sub ..⟩

/-- Two lists that do, in a row, do. -/
theorem Local.app {k l : List Op} (hk : Local k) (hl : Local l) : Local (k ++ l) := List.forall_append.mpr ⟨hk, hl⟩

/-- Four rounds and a key addition do. -/
theorem Local.group {a b c d e : List Op} (ha : Local a) (hb : Local b) (hc : Local c) (hd : Local d) (he : Local e) :
    Local (a ++ b ++ c ++ d ++ e) := (((ha.app hb).app hc).app hd).app he

/-- The hash does. -/
theorem hashOps_local : Local hashOps := by
  refine Local.app
    ⟨binary_bufs_sub .., nullary_bufs_sub .., binary_bufs_sub .., unary_bufs_sub .., binary_bufs_sub .., unary_bufs_sub ..,
      binary_bufs_sub ..⟩ (.app ?_ (.app ?_ (.app ?_ (.app ?_ ?_))))
  all_goals
    exact .group (roundOps_local ..) (roundOps_local ..) (roundOps_local ..) (roundOps_local ..) (keyOps_local ..)

/-- So do all operations. -/
theorem allOps_local : Local allOps := by
  refine Local.app ?_ (.app ?_ (.app hashOps_local (.app ?_ ?_)))
  all_goals
    refine List.forall_iff_forall_mem.mpr fun op h => ?_
    repeat (cases h with | head => simp only [TRef.nullary, TRef.unary, TRef.binary, TRef.ternary, TRef.quaternary, TRef.reshape, nullary_bufs_sub, unary_bufs_sub, binary_bufs_sub, ternary_bufs_sub, quaternary_bufs_sub, reshape_bufs_sub] | tail _ h => ?_)
    exact nomatch h

/-- The reference's run leaves in every buffer what its operations in order leave there. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      ∀ (d : Dev nD) (b : Ref sig .tc),
        r.2.mem ((d.tc : Thread nD τ).loc b) = after allOps (launchContents m d) (Proc.devRef .tc b) :=
  run_seq (by decide) (by decide) _ _ (fun _ => allOps) main_eq (fun _ => allOps_local) m g
    fun _ => List.forall_iff_forall_mem.mp (forall_fresh_of_map rfl)

/-- The reference runs, leaves its argument as it was, and every semaphore counter ends at zero. -/
theorem frame (m : (ℓ : Loc nD τ sig) → Buf (Elt Ideal) ℓ) (g : Dev nD → PrngReg) :
    θ_run (defs (F := Ideal)) (onTc (τ := τ) (main (F := Ideal))) ⟨m, fun _ => 0, g⟩ fun r =>
      (∀ c : Dev nD, r.2.mem ((c.tc : Thread nD τ).loc main_arg0) = m ((c.tc : Thread nD τ).loc main_arg0))
        ∧ r.2.sem = fun _ => 0 := by
  refine (θ_run (defs (F := Ideal)) _ _).mono (fun r h => ⟨fun c => ?_, Idealize.ShloMosaic.sem_eq_zero_of_no_sems (by decide) r.2⟩) (run m g)
  exact (h c main_arg0).trans (arg_end (launchContents m c))

end Cert.Rng.Host
-- ==== Proof.KernelHash.lean ====
/-
  The kernel's hash, one position of a block at a time. The kernel carries, instead of the pair `(x, y)` of words, the sum
  `x + y` and `y`; two lemmas, one round and a round with a key addition, take such a state to the next.
-/
module

public import proofs.«01_k».proof.Proof.Words
public import proofs.«01_k».proof.Proof.Gen.KernelIdeal.Frame
public import Idealize.ShloMosaic.Lib.Pointwise

@[expose] public section

set_option maxRecDepth 16384

noncomputable section

namespace Cert.Rng.Block

open Idealize.ShloMosaic Cert.KernelIdeal Cert.KernelIdeal.Gen

/-- A block of words. -/
abbrev Words := IVec S8x100000 32

/-- At position `j` of the block, `s` holds the sum and `y` the second word of the pair `p`. -/
structure State (s y : Words) (j : S8x100000.Idx) (p : Word × Word) : Prop where
  sum : s j = p.1 + p.2
  snd : y j = p.2

/-- The second word after a round: `y` rotated by way of two shifts, exclusive-or the sum. -/
abbrev turned (s y : Words) (r l : Word) : Words :=
  xori s (ori (shli y (broadcast S8x100000 r)) (shrui y (broadcast S8x100000 l)))

/-- It is what `mix` says. -/
theorem State.turned {s y : Words} {j : S8x100000.Idx} {p : Word × Word} (H : State s y j p) (r l : Word)
    (hr : r.toNat < 32) (hl : l.toNat < 32) : turned s y r l j = (mix r l p).2 := by
  show s j ^^^ (IntOp.shli _ (y j) r ||| IntOp.shrui _ (y j) l) = _
  rw [H.sum, H.snd, IntOp.shli, IntOp.shrui, if_pos hr, if_pos hl]; rfl

/-- A round takes the pair `p` to `mix r l p`. -/
theorem State.round {s y : Words} {j : S8x100000.Idx} {p : Word × Word} (H : State s y j p) (r l : Word)
    (hr : r.toNat < 32) (hl : l.toNat < 32) :
    State (addi s (Block.turned s y r l)) (Block.turned s y r l) j (mix r l p) :=
  ⟨congrArg₂ (· + ·) H.sum (H.turned r l hr hl), H.turned r l hr hl⟩

/-- A round's second word with the key word `b` and the step number `n` added. -/
abbrev keyed (s y : Words) (r l b n : Word) : Words :=
  addi (addi (turned s y r l) (broadcast S8x100000 b)) (broadcast S8x100000 n)

/-- It is what `inject` says. -/
theorem State.keyed {s y : Words} {j : S8x100000.Idx} {p : Word × Word} (H : State s y j p) (r l a b n : Word)
    (hr : r.toNat < 32) (hl : l.toNat < 32) : keyed s y r l b n j = (inject a b n (mix r l p)).2 :=
  congrArg (fun w => w + b + n) (H.turned r l hr hl)

/-- A round and a key addition take the pair `p` to `inject a b n (mix r l p)`. -/
theorem State.roundKey {s y : Words} {j : S8x100000.Idx} {p : Word × Word} (H : State s y j p) (r l a b n : Word)
    (hr : r.toNat < 32) (hl : l.toNat < 32) :
    State (addi (addi s (broadcast S8x100000 a)) (Block.keyed s y r l b n)) (Block.keyed s y r l b n) j (inject a b n (mix r l p)) :=
  ⟨congrArg₂ (· + ·) (congrArg (· + a) H.sum) (H.keyed r l a b n hr hl), H.keyed r l a b n hr hl⟩

/-- The two words after a last round and key addition, combined. -/
theorem State.last {s y : Words} {j : S8x100000.Idx} {p : Word × Word} (H : State s y j p) (r l a b n : Word)
    (hr : r.toNat < 32) (hl : l.toNat < 32) :
    xori (addi s (broadcast S8x100000 a)) (Block.keyed s y r l b n) j
      = (inject a b n (mix r l p)).1 ^^^ (inject a b n (mix r l p)).2 :=
  congrArg₂ (· ^^^ ·) (congrArg (· + a) H.sum) (H.keyed r l a b n hr hl)

/-- The flat position of the block's position `(r, k)`, as the kernel computes it, is that of row `8 i + r`. -/
theorem flat_at (i : grid0.Coords) (r : Fin 8) (k : Fin 100000) :
    k0_pay3 i (ix2 r k) = BitVec.ofNat 32 ((8 * (i 0).val + r) * 100000 + k) + 42#32 := by
  have hi : (i 0).val < 16 := (i 0).2
  have hr := r.2
  have hk := k.2
  unfold k0_pay3
  pointwise
  apply BitVec.eq_of_toNat_eq
  simp only [Scalar.muli, IntOp.muli, IntOp.addi, BitVec.toNat_add, BitVec.toNat_mul, BitVec.toNat_ofNat]
  omega

/-- The third key word, as the kernel computes it. -/
abbrev third : Word := Scalar.xori (Scalar.xori 0#32 42#32) 466688986#32

section Chain

variable (i : grid0.Coords) (x : Vec Ideal S8x100000 .f32)

/-- The state before the first round: the position added to the key. -/
theorem state0 (r : Fin 8) (k : Fin 100000) :
    State (k0_pay4 i) (k0_pay3 i) (ix2 r k) (0#32 + 0#32, BitVec.ofNat 32 ((8 * (i 0).val + r) * 100000 + k) + 42#32) :=
  ⟨congrArg (fun w => 0#32 + 0#32 + w) (flat_at i r k), flat_at i r k⟩

/-- After the first group and the three rounds the kernel's second part runs of the next. -/
theorem state1 {j : S8x100000.Idx} {p : Word × Word} (H : State (k0_pay4 i) (k0_pay3 i) j p) :
    State (k0_pay49 i x) (k0_pay48 i x) j
      (mix 16#32 16#32 (mix 29#32 3#32 (mix 17#32 15#32 (inject 42#32 (key2 0#32 42#32) 1#32 (quadA p))))) := by
  have H : State (k0_pay6 i) (k0_pay5 i) j _ := H.round 13#32 19#32 (by decide) (by decide)
  have H : State (k0_pay9 (k0_pay46 i x) (k0_pay47 i x)) (k0_pay8 (k0_pay46 i x) (k0_pay47 i x)) j _ :=
    H.round 15#32 17#32 (by decide) (by decide)
  have H : State (k0_pay11 (k0_pay46 i x) (k0_pay47 i x)) (k0_pay10 (k0_pay46 i x) (k0_pay47 i x)) j _ :=
    H.round 26#32 6#32 (by decide) (by decide)
  have H : State (k0_pay13 third (k0_pay46 i x) (k0_pay47 i x)) (k0_pay12 third (k0_pay46 i x) (k0_pay47 i x)) j _ :=
    H.roundKey 6#32 26#32 42#32 third 1#32 (by decide) (by decide)
  have H : State (k0_pay15 third (k0_pay46 i x) (k0_pay47 i x)) (k0_pay14 third (k0_pay46 i x) (k0_pay47 i x)) j _ :=
    H.round 17#32 15#32 (by decide) (by decide)
  have H : State (k0_pay17 third (k0_pay46 i x) (k0_pay47 i x)) (k0_pay16 third (k0_pay46 i x) (k0_pay47 i x)) j _ :=
    H.round 29#32 3#32 (by decide) (by decide)
  exact H.round 16#32 16#32 (by decide) (by decide)

/-- After the rest of the second group and the third group. -/
theorem state2 {j : S8x100000.Idx} {p : Word × Word} (H : State (k0_pay49 i x) (k0_pay48 i x) j p) :
    State (k0_pay53 i x) (k0_pay52 i x) j
      (inject 0#32 42#32 3#32 (quadA (inject (key2 0#32 42#32) 0#32 2#32 (mix 24#32 8#32 p)))) := by
  have H : State (k0_pay23 third (k0_pay48 i x) (k0_pay49 i x) (k0_pay50 i x) (k0_pay51 i x))
      (k0_pay22 (k0_pay48 i x) (k0_pay49 i x) (k0_pay50 i x) (k0_pay51 i x)) j _ :=
    H.roundKey 24#32 8#32 third 0#32 2#32 (by decide) (by decide)
  have H : State (k0_pay25 third (k0_pay48 i x) (k0_pay49 i x) (k0_pay50 i x) (k0_pay51 i x))
      (k0_pay24 third (k0_pay48 i x) (k0_pay49 i x) (k0_pay50 i x) (k0_pay51 i x)) j _ :=
    H.round 13#32 19#32 (by decide) (by decide)
  have H : State (k0_pay27 third (k0_pay48 i x) (k0_pay49 i x) (k0_pay50 i x) (k0_pay51 i x))
      (k0_pay26 third (k0_pay48 i x) (k0_pay49 i x) (k0_pay50 i x) (k0_pay51 i x)) j _ :=
    H.round 15#32 17#32 (by decide) (by decide)
  have H : State (k0_pay29 third (k0_pay48 i x) (k0_pay49 i x) (k0_pay50 i x) (k0_pay51 i x))
      (k0_pay28 third (k0_pay48 i x) (k0_pay49 i x) (k0_pay50 i x) (k0_pay51 i x)) j _ :=
    H.round 26#32 6#32 (by decide) (by decide)
  exact H.roundKey 6#32 26#32 0#32 42#32 3#32 (by decide) (by decide)

/-- After the fourth group and the two rounds the kernel's fourth part runs of the last. -/
theorem state3 {j : S8x100000.Idx} {p : Word × Word} (H : State (k0_pay53 i x) (k0_pay52 i x) j p) :
    State (k0_pay44 third (k0_pay52 i x) (k0_pay53 i x) (k0_pay54 i x)) (k0_pay43 third (k0_pay52 i x) (k0_pay53 i x) (k0_pay54 i x)) j
      (mix 15#32 17#32 (mix 13#32 19#32 (inject 42#32 (key2 0#32 42#32) 4#32 (quadB p)))) := by
  have H : State (k0_pay34 (k0_pay52 i x) (k0_pay53 i x) (k0_pay54 i x)) (k0_pay33 (k0_pay52 i x) (k0_pay53 i x) (k0_pay54 i x)) j _ :=
    H.round 17#32 15#32 (by decide) (by decide)
  have H : State (k0_pay36 (k0_pay52 i x) (k0_pay53 i x) (k0_pay54 i x)) (k0_pay35 (k0_pay52 i x) (k0_pay53 i x) (k0_pay54 i x)) j _ :=
    H.round 29#32 3#32 (by decide) (by decide)
  have H : State (k0_pay38 (k0_pay52 i x) (k0_pay53 i x) (k0_pay54 i x)) (k0_pay37 (k0_pay52 i x) (k0_pay53 i x) (k0_pay54 i x)) j _ :=
    H.round 16#32 16#32 (by decide) (by decide)
  have H : State (k0_pay40 third (k0_pay52 i x) (k0_pay53 i x) (k0_pay54 i x)) (k0_pay39 third (k0_pay52 i x) (k0_pay53 i x) (k0_pay54 i x)) j _ :=
    H.roundKey 24#32 8#32 42#32 third 4#32 (by decide) (by decide)
  have H : State (k0_pay42 third (k0_pay52 i x) (k0_pay53 i x) (k0_pay54 i x)) (k0_pay41 third (k0_pay52 i x) (k0_pay53 i x) (k0_pay54 i x)) j _ :=
    H.round 13#32 19#32 (by decide) (by decide)
  exact H.round 15#32 17#32 (by decide) (by decide)

/-- The last two rounds, the last key addition, and the two words combined: the kernel's random word. -/
abbrev lastWord (s y : Words) : Words :=
  xori (addi (addi s (turned s y 26#32 6#32)) (broadcast S8x100000 third))
    (keyed (addi s (turned s y 26#32 6#32)) (turned s y 26#32 6#32) 6#32 26#32 0#32 5#32)

/-- It is the random word at the flat position. -/
theorem lastWord_at (r : Fin 8) (k : Fin 100000) :
    lastWord (k0_pay44 third (k0_pay52 i x) (k0_pay53 i x) (k0_pay54 i x)) (k0_pay43 third (k0_pay52 i x) (k0_pay53 i x) (k0_pay54 i x)) (ix2 r k)
      = word (BitVec.ofNat 32 ((8 * (i 0).val + r) * 100000 + k)) :=
  ((state3 i x (state2 i x (state1 i x (state0 i r k)))).round 26#32 6#32 (by decide) (by decide)).last 6#32 26#32 third 0#32 5#32
    (by decide) (by decide)

end Chain

end Cert.Rng.Block
-- ==== Proof.KernelBlock.lean ====
/-
  What the kernel's body leaves in its two output blocks, from its input block: row `r` of grid point `i`'s block is row
  `8 i + r` of the arrays; the first block holds the row's probabilities, the second the position drawn.
-/
module

public import proofs.«01_k».proof.Proof.KernelHash
public import proofs.«01_k».proof.Proof.Spec

@[expose] public section

set_option maxRecDepth 16384

noncomputable section

namespace Cert.Rng.Block

open Idealize.ShloMosaic Cert.KernelIdeal Cert.KernelIdeal.Gen

/-- A block of numbers. -/
abbrev Numbers := FVec Ideal S8x100000 .f32

/-- The first store's value: the probabilities of the row. -/
theorem prob_at (x : Vec Ideal S8x100000 .f32) (r : Fin 8) (k : Fin 100000) :
    k0_pay2 x (ix2 r k) = prob (fun k => x (ix2 r k)) k := by
  unfold k0_pay2
  pointwise
  simp only [prob, denom]

/-- The scores, from the block of probabilities and the block of random words. -/
abbrev scores (p : Numbers) (w : Words) : Numbers :=
  addf
    (subf (broadcast S8x100000 (Scalar.ofBits .f32 0x00000000#32 : Ideal .f32))
      (log (subf (broadcast S8x100000 (Scalar.ofBits .f32 0x00000000#32 : Ideal .f32))
        (log (maximumf (broadcast S8x100000 (Scalar.ofBits .f32 0x00800000#32 : Ideal .f32))
          (addf
            (mulf
              (subf (bitcastToFloat .f32 (ori (shrui w (broadcast S8x100000 9#32)) (broadcast S8x100000 1065353216#32)))
                (broadcast S8x100000 (Scalar.ofBits .f32 0x3F800000#32 : Ideal .f32)))
              (broadcast S8x100000 (Scalar.ofBits .f32 0x3F800000#32 : Ideal .f32)))
            (broadcast S8x100000 (Scalar.ofBits .f32 0x00800000#32 : Ideal .f32))))))))
    (log p)

/-- A score is the word's noise plus the probability's logarithm. -/
theorem scores_at (p : Numbers) (w : Words) (r : Fin 8) (k : Fin 100000) :
    scores p w (ix2 r k) = noise (w (ix2 r k)) + Ideal.log (p (ix2 r k)) := by
  unfold scores
  pointwise
  rw [IntOp.shrui, if_pos (by decide)]
  simp only [noise, tiny, zero_sub]
  rfl

/-- Where a row attains its maximum. -/
abbrev attained (s : Numbers) : IVec S8x100000 1 :=
  cmpf .oeq s (broadcastTo S8x100000
    (shapeCast S8x1 (multiReduction .maximumf [1] S8 s 0xFF800000#32 reduces_S8x100000_S8 (.inl rfl) rfl) shapeCasts_S8_S8x1)
    broadcasts_S8x1_S8x100000)

/-- The mask the kernel hands to its second store. -/
theorem mask_eq (p : Numbers) (s y : Words) : k0_pay45 p third s y 26#32 = attained (scores p (lastWord y s)) := rfl

/-- The second store's value: the first position where the row attains its maximum. -/
theorem first_at (s : Numbers) (r : Fin 8) :
    k0_pay1 (iota .tc S8x100000 32 [1] iota_S8x100000_d1_w32) (attained s) (ix2 r 0)
      = BitVec.ofNat 32 (firstMax fun k => s (ix2 r k)) := by
  unfold k0_pay1
  pointwise
  rw [fold_max (firstMax_spec fun k => s (ix2 r k)) _ ofBits_bottom]
  exact fold_minsi_firstMax (firstMax_spec fun k => s (ix2 r k)) _ fun k => rfl

/-! ## The blocks -/

/-- The rectangles of the loads and stores start at the origin. -/
theorem origin : (![0, 0] : Fin 2 → Nat) = fun _ => 0 := by
  funext a; fin_cases a <;> rfl

/-- The first output block: the probabilities of each row of the input block. -/
theorem out_prob (i : grid0.Coords) (x : Vec Ideal S8x100000 .f32) (r : Fin 8) (k : Fin 100000) :
    out0_1 i x (ix2 r k) = prob (fun k => x (ix2 r k)) k := by
  rw [out0_1, View.canon_unit_zero origin, View.ld_unit_zero origin, prob_at]

/-- The second output block: the position drawn in each row of the input block. -/
theorem out_action (i : grid0.Coords) (x : Vec Ideal S8x100000 .f32) (r : Fin 8) :
    out0_2 i x (ix2 r 0) = action (8 * (i 0).val + r) fun k => x (ix2 r k) := by
  rw [out0_2, View.canon_unit_zero origin, View.ld_unit_zero origin, mask_eq, first_at, action]
  refine congrArg (fun s => BitVec.ofNat 32 (firstMax s)) (funext fun k => ?_)
  rw [scores_at, lastWord_at, prob_at, score, wordAt]

end Cert.Rng.Block
-- ==== Proof.KernelRun.lean ====
/-
  The kernel's run: the blocks written back tile the two result arrays, so each holds, row by row, what the body leaves; the
  reshapes before and after the kernel only rename indices.
-/
module

public import proofs.«01_k».proof.Proof.KernelBlock
public import Idealize.ShloMosaic.Lib.Pipeline.ValueKit.Point

@[expose] public section

set_option maxRecDepth 16384

noncomputable section

namespace Cert.Rng.Run

open Idealize.ShloMosaic Idealize.ShloMosaic.TcCoe Idealize.SL.Sem Cert.KernelIdeal Cert.KernelIdeal.Gen

variable (m : (ℓ : Loc nD τ sig) → Buf (Elt Ideal) ℓ) (g : Dev nD → PrngReg)

/-- The argument's row `r` on device `c`. -/
abbrev row (c : Dev nD) (r : Fin 128) (k : Fin 100000) : EReal := m ((c.tc : Thread nD τ).loc main_arg0) (ix3 r 0 k)

/-- The region's first result array, as the rows' probabilities. -/
def probs (c : Dev nD) : FVec Ideal S128x100000 .f32 := fun y => prob (row m c (y 0)) (y 1)

/-- The region's second result array, as the rows' drawn positions. -/
def actions (c : Dev nD) : IVec S128x1 32 := fun y => action (y 0).val (row m c (y 0))

/-- Where the three windows' blocks stand at a point: at block row `t`. -/
theorem idx0 : ∀ t : Fin cfg0.N, win0_0.index t = ![(grid0.coords t 0).val, 0] := (by decide +kernel : ∀ t : Fin grid0.N, _)
/-- The same for the first result. -/
theorem idx1 : ∀ t : Fin cfg0.N, win0_1.index t = ![(grid0.coords t 0).val, 0] := (by decide +kernel : ∀ t : Fin grid0.N, _)
/-- The same for the second result. -/
theorem idx2 : ∀ t : Fin cfg0.N, win0_2.index t = ![(grid0.coords t 0).val, 0] := (by decide +kernel : ∀ t : Fin grid0.N, _)

/-- An array that lost its unit axis, read at `(q, k)`. -/
theorem drop_at (x : FVec Ideal S128x1x100000 .f32) (q : Fin 128) (k : Fin 100000) :
    shapeCast S128x100000 x shapeCasts_S128x1x100000_S128x100000 (ix2 q k) = x (ix3 q 0 k) := by
  pointwise

/-- The body's first block at any index. -/
theorem prob_block (i : grid0.Coords) (x : Vec Ideal S8x100000 .f32) (y : S8x100000.Idx) :
    out0_1 i x y = prob (fun k => x (ix2 (y 0) k)) (y 1) :=
  (congrArg (out0_1 i x) (eq_ix2 y)).trans (Cert.Rng.Block.out_prob i x (y 0) (y 1))

/-- The body's second block at any index. -/
theorem action_block (i : grid0.Coords) (x : Vec Ideal S8x100000 .f32) (y : S8x1.Idx) :
    out0_2 i x y = action (8 * (i 0).val + (y 0).val) fun k => x (ix2 (y 0) k) := by
  have hy : y = ix2 (y 0) 0 := (eq_ix2 y).trans (congrArg (ix2 (y 0)) (Subsingleton.elim (α := Fin 1) _ _))
  exact (congrArg (out0_2 i x) hy).trans (Cert.Rng.Block.out_action i x (y 0))

/-- The array the first window reads: the argument without its unit axis. -/
theorem entry (c : Dev nD) : V m c main_call0_v0
    = shapeCast S128x100000 (m ((c.tc : Thread nD τ).loc main_arg0)) shapeCasts_S128x1x100000_S128x100000 := by
  unfold_abbrev_sides
  simp only [List.flatten_cons, List.flatten_nil, List.append_nil]
  unfold hostOps0
  after_results
  rfl

/-- The input block at point `t`, read at `(r, k)`: the argument at row `8 t + r`. -/
theorem iblk_at (c : Dev nD) (t : Fin cfg0.N) (r : Fin 8) (k : Fin 100000) (q : Fin 128) (hq : q.val = 8 * (grid0.coords t 0).val + r) :
    iblk m c 0 t (ix2 r k) = row m c q k := by
  have he : (win0_0.blk t).view.emb (ix2 r k) = ix2 q k := by
    blk_ext [idx0 t]
  blk_simp [iblk]
  show V m c main_call0_v0 ((win0_0.blk t).view.emb (ix2 r k)) = _
  rw [entry m c, he]
  exact drop_at _ q k

/-- The first result array holds the probabilities. -/
theorem final_probs (c : Dev nD) : (dats m 0 c).arrAt 1 cfg0.N = probs m c := by
  refine (dats m 0 c).arrAt_eq_of_covers 1 _ (by decide +kernel) fun t hf y => ?_
  blk_simp
  rw [after0_1]
  have h0 : (((win0_1.blk t).view.emb y 0 : Fin 128) : Nat) = 8 * (grid0.coords t 0).val + (y 0 : Fin 8) := by
    blk_simp [idx1 t]
    simp only [Matrix.cons_val_zero]
    omega
  have h1 : ((win0_1.blk t).view.emb y 1 : Fin 100000) = (y 1 : Fin 100000) := by
    apply Fin.ext
    blk_simp [idx1 t]
  refine (prob_block _ _ y).trans ?_
  rw [probs, h1]
  exact congrArg (fun x => prob x (y 1 : Fin 100000)) (funext fun k => iblk_at m c t (y 0) k _ h0)

/-- The second result array holds the drawn positions. -/
theorem final_actions (c : Dev nD) : (dats m 0 c).arrAt 2 cfg0.N = actions m c := by
  refine (dats m 0 c).arrAt_eq_of_covers 2 _ (by decide +kernel) fun t hf y => ?_
  blk_simp
  rw [after0_2]
  have h0 : (((win0_2.blk t).view.emb y 0 : Fin 128) : Nat) = 8 * (grid0.coords t 0).val + (y 0 : Fin 8) := by
    blk_simp [idx2 t]
    simp only [Matrix.cons_val_zero]
    omega
  refine (action_block _ _ y).trans ?_
  rw [actions, h0]
  exact congrArg (action _) (funext fun k => iblk_at m c t (y 0) k _ h0)

/-- The reshape after the region. -/
theorem tail (c : Dev nD) : Pipeline.afterTail₀ cfgs (dats m) 0 (V0 m) [hostOps1] c main_v0_0
    = shapeCast S128x1x100000 (probs m c) shapeCasts_S128x100000_S128x1x100000 := by
  unfold Pipeline.afterTail₀
  simp only [List.flatten_cons, List.flatten_nil, List.append_nil]
  unfold hostOps1
  after_results
  have h := (Pipeline.withArrays_arr (cfgs 0).spec (by decide) c (V0 m c) (fun w => (dats m 0 c).arrAt w (cfgs 0).N) 1).trans
    (final_probs m c)
  exact congrArg (fun x : FVec Ideal S128x100000 .f32 => shapeCast S128x1x100000 x shapeCasts_S128x100000_S128x1x100000) h

/-- The kernel's run. -/
theorem run : θ_run (defs (F := Ideal)) (onTc (τ := τ) (main (F := Ideal))) ⟨m, fun _ => 0, g⟩ fun r => ∀ c : Dev nD,
    r.2.mem ((c.tc : Thread nD τ).loc main_v0_0) = shapeCast S128x1x100000 (probs m c) shapeCasts_S128x100000_S128x1x100000
      ∧ r.2.mem ((c.tc : Thread nD τ).loc main_v0_1) = actions m c
      ∧ r.2.mem ((c.tc : Thread nD τ).loc main_arg0) = m ((c.tc : Thread nD τ).loc main_arg0) := by
  refine (θ_run (defs (F := Ideal)) _ _).mono (fun r h c => ⟨?_, ?_, ?_⟩) (θ_run_and (unchanged m g) (run_main m g))
  · exact ((h.2 c).2 main_v0_0 (Pipeline.mem_restRefs_of main_v0_0 (by decide) (by decide))).trans (tail m c)
  · exact ((h.2 c).1 2).trans (final_actions m c)
  · exact h.1 c

end Cert.Rng.Run
-- ==== Proof.Equal.lean ====
/-
  The equation: the two programs, started on one argument, leave the same two results. Both hold, row by row, the
  probabilities and the drawn position that `Spec` describes.
-/
module

public import proofs.«01_k».proof.Proof.HostEnd
public import proofs.«01_k».proof.Proof.KernelRun
public import proofs.«01_k».proof.Defs

@[expose] public section

set_option maxRecDepth 16384

noncomputable section

namespace Cert.Rng

open Idealize.ShloMosaic Idealize.SL.Sem

/-- An index of the three-axis result, by its row and its column. -/
theorem eq_row_col (y : Cert.KernelIdeal.S128x1x100000.Idx) : y = ix3 (y 0) 0 (y 2) :=
  (eq_ix3 y).trans (congrArg (fun z => ix3 (y 0) z (y 2)) (Subsingleton.elim (α := Fin 1) _ _))

/-- An index of the one-column result, by its row. -/
theorem eq_row (y : Cert.KernelIdeal.S128x1.Idx) : y = ix2 (y 0) 0 :=
  (eq_ix2 y).trans (congrArg (ix2 (y 0)) (Subsingleton.elim (α := Fin 1) _ _))

/-- An array given a unit axis, read at `(r, 0, k)`. -/
theorem lift_at (x : FVec Ideal Cert.KernelIdeal.S128x100000 .f32) (r : Fin 128) (k : Fin 100000) :
    shapeCast Cert.KernelIdeal.S128x1x100000 x Cert.KernelIdeal.Gen.shapeCasts_S128x100000_S128x1x100000 (ix3 r 0 k) = x (ix2 r k) := by
  pointwise

/-- The kernel and the reference leave the same probabilities and the same drawn positions. -/
theorem equal : Cert.algebraic_KernelIdeal_ReferenceIdeal := by
  intro m g m' g' _ hargs
  refine ⟨fun c => shapeCast Cert.KernelIdeal.S128x1x100000 (Run.probs m c) Cert.KernelIdeal.Gen.shapeCasts_S128x100000_S128x1x100000,
    fun c => Run.actions m c, Run.run m g, ?_⟩
  refine (θ_run (Cert.ReferenceIdeal.defs (F := Ideal)) _ _).mono (fun r h c => ⟨?_, ?_, ?_⟩) (Host.run m' g')
  · refine (h c Cert.ReferenceIdeal.main_v8).trans (funext fun y => ?_)
    rw [eq_row_col y]
    refine (Host.prob_end (StableHlo.launchContents m' c) (y 0) (y 2)).trans ?_
    refine Eq.trans ?_ (lift_at (Run.probs m c) (y 0) (y 2)).symm
    exact congrArg (fun x : Cert.KernelIdeal.S128x1x100000.Idx → EReal => prob (fun k => x (ix3 (y 0) 0 k)) (y 2)) (hargs c)
  · refine (h c Cert.ReferenceIdeal.main_v56).trans (funext fun y => ?_)
    rw [eq_row y]
    refine (Host.action_end (StableHlo.launchContents m' c) (y 0)).trans ?_
    exact congrArg (fun x : Cert.KernelIdeal.S128x1x100000.Idx → EReal => action (y 0) (fun k => x (ix3 (y 0) 0 k))) (hargs c)
  · exact (h c Cert.ReferenceIdeal.main_arg0).trans (Host.arg_end (StableHlo.launchContents m' c))

end Cert.Rng
-- ==== Proof.lean ====
/-
  The five claims about the sampler's kernel, assembled: the three programs run and leave their argument and the semaphores
  alone, the ideal program is the kernel over the extended reals, and kernel and reference compute the same two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The frames of the kernel, of its ideal program and of the reference; the ideal program is the kernel; kernel and reference
are equal over the extended reals. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m g _ => Cert.Rng.Host.frame m g, trivial, Cert.Rng.equal⟩

end Cert.Proof

end
